-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_prong_mask_is_first_half [hPre_prong_mask_is_first_half : Cert.Pre_prong_mask_is_first_half.Facts] (m : (ℓ : Loc Cert.KernelIdeal.nD Cert.KernelIdeal.τ Cert.KernelIdeal.sig) → Buf (Elt Ideal) ℓ) : Prop :=
  ∀ c : Dev Cert.KernelIdeal.nD,
    (Cert.Pre_prong_mask_is_first_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prong_mask_is_first_half [hPre_prong_mask_is_first_half : Cert.Pre_prong_mask_is_first_half.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prong_mask_is_first_half.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_prong_mask_is_first_half [hKernelIdeal : Cert.KernelIdeal.Facts] [hPre_prong_mask_is_first_half : Cert.Pre_prong_mask_is_first_half.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_prong_mask_is_first_half m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_prong_mask_is_first_half [hReferenceIdeal : Cert.ReferenceIdeal.Facts] [hPre_prong_mask_is_first_half : Cert.Pre_prong_mask_is_first_half.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prong_mask_is_first_half m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_prong_mask_is_first_half [hKernelIdeal : Cert.KernelIdeal.Facts] [hReferenceIdeal : Cert.ReferenceIdeal.Facts] [hPre_prong_mask_is_first_half : Cert.Pre_prong_mask_is_first_half.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_prong_mask_is_first_half m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_prong_mask_is_first_half : Cert.Pre_prong_mask_is_first_half.Facts),
    quiescent_Kernel (hKernel := hKernel)
    ∧ quiescent_KernelIdeal (hKernelIdeal := hKernelIdeal)
    ∧ quiescent_KernelIdeal_pre_prong_mask_is_first_half (hKernelIdeal := hKernelIdeal) (hPre_prong_mask_is_first_half := hPre_prong_mask_is_first_half)
    ∧ quiescent_ReferenceIdeal (hReferenceIdeal := hReferenceIdeal)
    ∧ quiescent_ReferenceIdeal_pre_prong_mask_is_first_half (hReferenceIdeal := hReferenceIdeal) (hPre_prong_mask_is_first_half := hPre_prong_mask_is_first_half)
    ∧ preserves_Kernel_KernelIdeal
    ∧ algebraic_KernelIdeal_ReferenceIdeal_pre_prong_mask_is_first_half (hKernelIdeal := hKernelIdeal) (hReferenceIdeal := hReferenceIdeal) (hPre_prong_mask_is_first_half := hPre_prong_mask_is_first_half)
-- ==== Pre_prong_mask_is_first_half.lean ====
abbrev S16x2048x32 : Shape := ⟨3, ![16, 2048, 32]⟩
abbrev S16x16 : Shape := ⟨2, ![16, 16]⟩
abbrev S16x256 : Shape := ⟨2, ![16, 256]⟩
abbrev S16x1 : Shape := ⟨2, ![16, 1]⟩
abbrev S16384x256 : Shape := ⟨2, ![16384, 256]⟩
abbrev S16x2048 : Shape := ⟨2, ![16, 2048]⟩
abbrev S48x64 : Shape := ⟨2, ![48, 64]⟩
abbrev S64 : Shape := ⟨1, ![64]⟩
abbrev S256x64 : Shape := ⟨2, ![256, 64]⟩
abbrev S256x128 : Shape := ⟨2, ![256, 128]⟩
abbrev S128 : Shape := ⟨1, ![128]⟩
abbrev S1x32 : Shape := ⟨2, ![1, 32]⟩
abbrev S160x128 : Shape := ⟨2, ![160, 128]⟩
abbrev S2048 : Shape := ⟨1, ![2048]⟩
abbrev S_ : Shape := ⟨0, ![]⟩
abbrev S1x2048 : Shape := ⟨2, ![1, 2048]⟩

class Facts : Prop where
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S16x2048_0_1 : S1x2048.BroadcastsInDim S16x2048 (![0, 1] : Fin 2 → Fin S16x2048.rank)
  reducesTo_S16x2048_S_d0_1 : S16x2048.ReducesTo [0, 1] S_
  h_S_ : 0 < S_.numel

variable [Facts]

def fn {F : FTy → Type} [FloatOps F] (main_arg0 : FVec F S16x2048x32 .f32) (main_arg1 : FVec F S16x16 .f32) (main_arg2 : FVec F S16x256 .f32) (main_arg3 : IVec S16x1 1) (main_arg4 : FVec F S16384x256 .f32) (main_arg5 : IVec S16x2048 1) (main_arg6 : FVec F S48x64 .f32) (main_arg7 : FVec F S64 .f32) (main_arg8 : FVec F S256x64 .f32) (main_arg9 : FVec F S64 .f32) (main_arg10 : FVec F S256x128 .f32) (main_arg11 : FVec F S128 .f32) (main_arg12 : FVec F S1x32 .f32) (main_arg13 : FVec F S160x128 .f32) (main_arg14 : FVec F S128 .f32) : IVec S_ 1 :=
  let main_v0 : IVec S2048 32 := iotaInDim S2048 32 0
  let main_c : IVec S_ 32 := constantI S_ 32 1024#32
  let main_v1 : IVec S2048 32 := broadcastInDim S2048 ![] bcast_S_S2048 main_c
  let main_v2 : IVec S2048 1 := cmpi .slt main_v0 main_v1
  let main_v3 : IVec S1x2048 1 := broadcastInDim S1x2048 ![1] bcast_S2048_S1x2048_1 main_v2
  let main_v4 : IVec S16x2048 1 := broadcastInDim S16x2048 ![0, 1] bcast_S1x2048_S16x2048_0_1 main_v3
  let main_v5 : IVec S16x2048 1 := cmpi .eq main_arg5 main_v4
  let main_c_0 : IVec S_ 1 := constantI S_ 1 1#1
  let main_v6 : IVec S_ 1 := (fun x v => Host.reduce IntOp.andi x v reducesTo_S16x2048_S_d0_1 h_S_) main_v5 main_c_0
  main_v6
-- ==== Kernel.lean ====
abbrev S16x2048x32 : Shape := ⟨3, ![16, 2048, 32]⟩
abbrev S16x16 : Shape := ⟨2, ![16, 16]⟩
abbrev S16x256 : Shape := ⟨2, ![16, 256]⟩
abbrev S16x1 : Shape := ⟨2, ![16, 1]⟩
abbrev S16384x256 : Shape := ⟨2, ![16384, 256]⟩
abbrev S16x2048 : Shape := ⟨2, ![16, 2048]⟩
abbrev S48x64 : Shape := ⟨2, ![48, 64]⟩
abbrev S64 : Shape := ⟨1, ![64]⟩
abbrev S256x64 : Shape := ⟨2, ![256, 64]⟩
abbrev S256x128 : Shape := ⟨2, ![256, 128]⟩
abbrev S128 : Shape := ⟨1, ![128]⟩
abbrev S1x32 : Shape := ⟨2, ![1, 32]⟩
abbrev S160x128 : Shape := ⟨2, ![160, 128]⟩
abbrev S1x64 : Shape := ⟨2, ![1, 64]⟩
abbrev S1x128 : Shape := ⟨2, ![1, 128]⟩
abbrev S16x2049x128 : Shape := ⟨3, ![16, 2049, 128]⟩
abbrev S2x1024x256 : Shape := ⟨3, ![2, 1024, 256]⟩
abbrev S2x1024x32 : Shape := ⟨3, ![2, 1024, 32]⟩
abbrev S2x2049x128 : Shape := ⟨3, ![2, 2049, 128]⟩
abbrev S2 : Shape := ⟨1, ![2]⟩
abbrev S32x128 : Shape := ⟨2, ![32, 128]⟩
abbrev S16x128 : Shape := ⟨2, ![16, 128]⟩
abbrev S128x128 : Shape := ⟨2, ![128, 128]⟩
abbrev S16x64 : Shape := ⟨2, ![16, 64]⟩
abbrev S2049x128 : Shape := ⟨2, ![2049, 128]⟩
abbrev S1x2049x128 : Shape := ⟨3, ![1, 2049, 128]⟩
abbrev S1 : Shape := ⟨1, ![1]⟩
abbrev S_ : Shape := ⟨0, ![]⟩
abbrev S1x1024x256 : Shape := ⟨3, ![1, 1024, 256]⟩
abbrev S1024x256 : Shape := ⟨2, ![1024, 256]⟩
abbrev S1x1024x32 : Shape := ⟨3, ![1, 1024, 32]⟩
abbrev S1024x32 : Shape := ⟨2, ![1024, 32]⟩
abbrev S1024x64 : Shape := ⟨2, ![1024, 64]⟩
abbrev S32x64 : Shape := ⟨2, ![32, 64]⟩
abbrev S64x128 : Shape := ⟨2, ![64, 128]⟩
abbrev S1024x128 : Shape := ⟨2, ![1024, 128]⟩
abbrev S1025x128 : Shape := ⟨2, ![1025, 128]⟩
abbrev S1x1025x128 : Shape := ⟨3, ![1, 1025, 128]⟩
abbrev S16x2049 : Shape := ⟨2, ![16, 2049]⟩

abbrev nBuf : Space → Nat
  | .hbm => 21
  | .vmem => 14
  | .smem => 0
  | _ => 0

abbrev bufTy : (tb : Table) → Fin (tcTables nBuf tb) → BufTy
  | .hbm, ⟨0, _⟩ => ⟨S16x2048x32, .f32⟩
  | .hbm, ⟨1, _⟩ => ⟨S16x16, .f32⟩
  | .hbm, ⟨2, _⟩ => ⟨S16x256, .f32⟩
  | .hbm, ⟨3, _⟩ => ⟨S16x1, .i1⟩
  | .hbm, ⟨4, _⟩ => ⟨S16384x256, .f32⟩
  | .hbm, ⟨5, _⟩ => ⟨S16x2048, .i1⟩
  | .hbm, ⟨6, _⟩ => ⟨S48x64, .f32⟩
  | .hbm, ⟨7, _⟩ => ⟨S64, .f32⟩
  | .hbm, ⟨8, _⟩ => ⟨S256x64, .f32⟩
  | .hbm, ⟨9, _⟩ => ⟨S64, .f32⟩
  | .hbm, ⟨10, _⟩ => ⟨S256x128, .f32⟩
  | .hbm, ⟨11, _⟩ => ⟨S128, .f32⟩
  | .hbm, ⟨12, _⟩ => ⟨S1x32, .f32⟩
  | .hbm, ⟨13, _⟩ => ⟨S160x128, .f32⟩
  | .hbm, ⟨14, _⟩ => ⟨S128, .f32⟩
  | .hbm, ⟨15, _⟩ => ⟨S1x64, .f32⟩
  | .hbm, ⟨16, _⟩ => ⟨S1x64, .f32⟩
  | .hbm, ⟨17, _⟩ => ⟨S1x128, .f32⟩
  | .hbm, ⟨18, _⟩ => ⟨S1x128, .f32⟩
  | .hbm, ⟨19, _⟩ => ⟨S16x2049x128, .f32⟩
  | .hbm, ⟨20, _⟩ => ⟨S16x2049, .i1⟩
  | .local _ .vmem, ⟨0, _⟩ => ⟨S16x16, .f32⟩
  | .local _ .vmem, ⟨1, _⟩ => ⟨S16x256, .f32⟩
  | .local _ .vmem, ⟨2, _⟩ => ⟨S48x64, .f32⟩
  | .local _ .vmem, ⟨3, _⟩ => ⟨S1x64, .f32⟩
  | .local _ .vmem, ⟨4, _⟩ => ⟨S256x64, .f32⟩
  | .local _ .vmem, ⟨5, _⟩ => ⟨S1x64, .f32⟩
  | .local _ .vmem, ⟨6, _⟩ => ⟨S256x128, .f32⟩
  | .local _ .vmem, ⟨7, _⟩ => ⟨S1x128, .f32⟩
  | .local _ .vmem, ⟨8, _⟩ => ⟨S1x32, .f32⟩
  | .local _ .vmem, ⟨9, _⟩ => ⟨S160x128, .f32⟩
  | .local _ .vmem, ⟨10, _⟩ => ⟨S1x128, .f32⟩
  | .local _ .vmem, ⟨11, _⟩ => ⟨S2x1024x256, .f32⟩
  | .local _ .vmem, ⟨12, _⟩ => ⟨S2x1024x32, .f32⟩
  | .local _ .vmem, ⟨13, _⟩ => ⟨S2x2049x128, .f32⟩
  | _, _ => ⟨S16x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S16x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S160x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S16x2048x32 : Shape := ⟨3, ![16, 2048, 32]⟩
abbrev S16x16 : Shape := ⟨2, ![16, 16]⟩
abbrev S16x256 : Shape := ⟨2, ![16, 256]⟩
abbrev S16x1 : Shape := ⟨2, ![16, 1]⟩
abbrev S16384x256 : Shape := ⟨2, ![16384, 256]⟩
abbrev S16x2048 : Shape := ⟨2, ![16, 2048]⟩
abbrev S48x64 : Shape := ⟨2, ![48, 64]⟩
abbrev S64 : Shape := ⟨1, ![64]⟩
abbrev S256x64 : Shape := ⟨2, ![256, 64]⟩
abbrev S256x128 : Shape := ⟨2, ![256, 128]⟩
abbrev S128 : Shape := ⟨1, ![128]⟩
abbrev S1x32 : Shape := ⟨2, ![1, 32]⟩
abbrev S160x128 : Shape := ⟨2, ![160, 128]⟩
abbrev S16x128 : Shape := ⟨2, ![16, 128]⟩
abbrev S1x128 : Shape := ⟨2, ![1, 128]⟩
abbrev S_ : Shape := ⟨0, ![]⟩
abbrev S16x32 : Shape := ⟨2, ![16, 32]⟩
abbrev S16x160 : Shape := ⟨2, ![16, 160]⟩
abbrev S32768 : Shape := ⟨1, ![32768]⟩
abbrev S16384 : Shape := ⟨1, ![16384]⟩
abbrev S32768x1 : Shape := ⟨2, ![32768, 1]⟩
abbrev S1 : Shape := ⟨1, ![1]⟩
abbrev S32768x32 : Shape := ⟨2, ![32768, 32]⟩
abbrev S16384x1 : Shape := ⟨2, ![16384, 1]⟩
abbrev S16384x32 : Shape := ⟨2, ![16384, 32]⟩
abbrev S16384x16 : Shape := ⟨2, ![16384, 16]⟩
abbrev S16384x48 : Shape := ⟨2, ![16384, 48]⟩
abbrev S16384x64 : Shape := ⟨2, ![16384, 64]⟩
abbrev S1x64 : Shape := ⟨2, ![1, 64]⟩
abbrev S16384x160 : Shape := ⟨2, ![16384, 160]⟩
abbrev S16400x160 : Shape := ⟨2, ![16400, 160]⟩
abbrev S16400x128 : Shape := ⟨2, ![16400, 128]⟩
abbrev S16384x128 : Shape := ⟨2, ![16384, 128]⟩
abbrev S32768x128 : Shape := ⟨2, ![32768, 128]⟩
abbrev S16x2048x128 : Shape := ⟨3, ![16, 2048, 128]⟩
abbrev S16x1x128 : Shape := ⟨3, ![16, 1, 128]⟩
abbrev S16x2049x128 : Shape := ⟨3, ![16, 2049, 128]⟩
abbrev S16x2049 : Shape := ⟨2, ![16, 2049]⟩

abbrev nBuf : Space → Nat
  | .hbm => 189
  | .vmem => 0
  | .smem => 0
  | _ => 0

abbrev hbmTy0_0 (i : Nat) : BufTy := match i % 128 with
  | 0 => ⟨S16x2048x32, .f32⟩
  | 1 => ⟨S16x16, .f32⟩
  | 2 => ⟨S16x256, .f32⟩
  | 3 => ⟨S16x1, .i1⟩
  | 4 => ⟨S16384x256, .f32⟩
  | 5 => ⟨S16x2048, .i1⟩
  | 6 => ⟨S48x64, .f32⟩
  | 7 => ⟨S64, .f32⟩
  | 8 => ⟨S256x64, .f32⟩
  | 9 => ⟨S64, .f32⟩
  | 10 => ⟨S256x128, .f32⟩
  | 11 => ⟨S128, .f32⟩
  | 12 => ⟨S1x32, .f32⟩
  | 13 => ⟨S160x128, .f32⟩
  | 14 => ⟨S128, .f32⟩
  | 15 => ⟨S16x128, .f32⟩
  | 16 => ⟨S1x128, .f32⟩
  | 17 => ⟨S16x128, .f32⟩
  | 18 => ⟨S16x128, .f32⟩
  | 19 => ⟨S_, .f32⟩
  | 20 => ⟨S16x128, .f32⟩
  | 21 => ⟨S16x128, .f32⟩
  | 22 => ⟨S16x32, .f32⟩
  | 23 => ⟨S16x160, .f32⟩
  | 24 => ⟨S32768, .i1⟩
  | 25 => ⟨S32768, .i32⟩
  | 26 => ⟨S_, .i32⟩
  | 27 => ⟨S_, .i32⟩
  | 28 => ⟨S32768, .i32⟩
  | 29 => ⟨S_, .i32⟩
  | 30 => ⟨S16384, .i32⟩
  | 31 => ⟨S_, .i32⟩
  | 32 => ⟨S32768, .i32⟩
  | 33 => ⟨S32768, .i1⟩
  | 34 => ⟨S_, .i32⟩
  | 35 => ⟨S32768, .i32⟩
  | 36 => ⟨S32768, .i32⟩
  | 37 => ⟨S32768, .i32⟩
  | 38 => ⟨S32768x1, .i32⟩
  | 39 => ⟨S_, .i32⟩
  | 40 => ⟨S32768, .i32⟩
  | 41 => ⟨S16384, .i32⟩
  | 42 => ⟨S_, .i32⟩
  | 43 => ⟨S_, .i32⟩
  | 44 => ⟨S16384, .i32⟩
  | 45 => ⟨S_, .i32⟩
  | 46 => ⟨S_, .i32⟩
  | 47 => ⟨S16384, .i32⟩
  | 48 => ⟨S16384, .i32⟩
  | 49 => ⟨S16384, .i32⟩
  | 50 => ⟨S_, .i32⟩
  | 51 => ⟨S16384, .i32⟩
  | 52 => ⟨S16384, .i1⟩
  | 53 => ⟨S16384, .i32⟩
  | 54 => ⟨S16384, .i32⟩
  | 55 => ⟨S_, .i32⟩
  | 56 => ⟨S16384, .i32⟩
  | 57 => ⟨S16384, .i1⟩
  | 58 => ⟨S16384, .i1⟩
  | 59 => ⟨S_, .i32⟩
  | 60 => ⟨S16384, .i32⟩
  | 61 => ⟨S16384, .i32⟩
  | 62 => ⟨S16384, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S16384, .i32⟩
  | 70 => ⟨S16384, .i32⟩
  | 71 => ⟨S_, .i32⟩
  | 72 => ⟨S16384, .i32⟩
  | 73 => ⟨S16384, .i1⟩
  | 74 => ⟨S_, .i32⟩
  | 75 => ⟨S16384, .i32⟩
  | 76 => ⟨S16384, .i1⟩
  | 77 => ⟨S_, .i32⟩
  | 78 => ⟨S_, .i1⟩
  | 79 => ⟨S16384, .i1⟩
  | 80 => ⟨S16384, .i1⟩
  | 81 => ⟨S16384, .i1⟩
  | 82 => ⟨S16384, .i32⟩
  | 83 => ⟨S16384, .i32⟩
  | 84 => ⟨S16384, .i32⟩
  | 85 => ⟨S32768, .i32⟩
  | 86 => ⟨S_, .i32⟩
  | 87 => ⟨S_, .i32⟩
  | 88 => ⟨S1, .i32⟩
  | 89 => ⟨S16384, .i32⟩
  | 90 => ⟨S16384, .i32⟩
  | 91 => ⟨S16384, .i1⟩
  | 92 => ⟨S_, .i32⟩
  | 93 => ⟨S1, .i32⟩
  | 94 => ⟨S16384, .i32⟩
  | 95 => ⟨S16384, .i32⟩
  | 96 => ⟨S_, .i32⟩
  | 97 => ⟨S_, .i32⟩
  | 98 => ⟨S16384, .i32⟩
  | 99 => ⟨S16384, .i32⟩
  | 100 => ⟨S16384, .i32⟩
  | 101 => ⟨S_, .i32⟩
  | 102 => ⟨S16384, .i32⟩
  | 103 => ⟨S16384, .i1⟩
  | 104 => ⟨S16384, .i32⟩
  | 105 => ⟨S16384, .i32⟩
  | 106 => ⟨S_, .i32⟩
  | 107 => ⟨S16384, .i32⟩
  | 108 => ⟨S16384, .i1⟩
  | 109 => ⟨S16384, .i1⟩
  | 110 => ⟨S_, .i32⟩
  | 111 => ⟨S16384, .i32⟩
  | 112 => ⟨S16384, .i32⟩
  | 113 => ⟨S16384, .i32⟩
  | 114 => ⟨S32768x32, .f32⟩
  | 115 => ⟨S_, .i32⟩
  | 116 => ⟨S16384, .i32⟩
  | 117 => ⟨S16384, .i1⟩
  | 118 => ⟨S_, .i32⟩
  | 119 => ⟨S16384, .i32⟩
  | 120 => ⟨S16384, .i32⟩
  | 121 => ⟨S16384, .i32⟩
  | 122 => ⟨S16384x1, .i32⟩
  | 123 => ⟨S16384x32, .f32⟩
  | 124 => ⟨S_, .i32⟩
  | 125 => ⟨S16384, .i32⟩
  | 126 => ⟨S16384, .i1⟩
  | 127 => ⟨S_, .i32⟩
  | _ => ⟨S16x2048x32, .f32⟩

abbrev hbmTy0_1 (i : Nat) : BufTy := match i % 128 with
  | 0 => ⟨S16384, .i32⟩
  | 1 => ⟨S16384, .i32⟩
  | 2 => ⟨S16384, .i32⟩
  | 3 => ⟨S16384x1, .i32⟩
  | 4 => ⟨S16384x16, .f32⟩
  | 5 => ⟨S16384x48, .f32⟩
  | 6 => ⟨S16384x64, .f32⟩
  | 7 => ⟨S1x64, .f32⟩
  | 8 => ⟨S16384x64, .f32⟩
  | 9 => ⟨S16384x64, .f32⟩
  | 10 => ⟨S_, .f32⟩
  | 11 => ⟨S16384x64, .f32⟩
  | 12 => ⟨S16384x64, .f32⟩
  | 13 => ⟨S16384x64, .f32⟩
  | 14 => ⟨S1x64, .f32⟩
  | 15 => ⟨S16384x64, .f32⟩
  | 16 => ⟨S16384x64, .f32⟩
  | 17 => ⟨S_, .f32⟩
  | 18 => ⟨S16384x64, .f32⟩
  | 19 => ⟨S16384x64, .f32⟩
  | 20 => ⟨S16384x32, .f32⟩
  | 21 => ⟨S16384x160, .f32⟩
  | 22 => ⟨S16400x160, .f32⟩
  | 23 => ⟨S16400x128, .f32⟩
  | 24 => ⟨S1x128, .f32⟩
  | 25 => ⟨S16400x128, .f32⟩
  | 26 => ⟨S16400x128, .f32⟩
  | 27 => ⟨S16400x128, .f32⟩
  | 28 => ⟨S16400x128, .f32⟩
  | 29 => ⟨S_, .f32⟩
  | 30 => ⟨S16400x128, .f32⟩
  | 31 => ⟨S16400x128, .f32⟩
  | 32 => ⟨S16400x128, .f32⟩
  | 33 => ⟨S_, .f32⟩
  | 34 => ⟨S16400x128, .f32⟩
  | 35 => ⟨S16400x128, .f32⟩
  | 36 => ⟨S16400x128, .f32⟩
  | 37 => ⟨S_, .f32⟩
  | 38 => ⟨S16400x128, .f32⟩
  | 39 => ⟨S16400x128, .f32⟩
  | 40 => ⟨S_, .f32⟩
  | 41 => ⟨S16400x128, .f32⟩
  | 42 => ⟨S16400x128, .f32⟩
  | 43 => ⟨S16400x128, .f32⟩
  | 44 => ⟨S16x128, .f32⟩
  | 45 => ⟨S16384x128, .f32⟩
  | 46 => ⟨S_, .f32⟩
  | 47 => ⟨S32768x128, .f32⟩
  | 48 => ⟨S_, .i32⟩
  | 49 => ⟨S16384, .i32⟩
  | 50 => ⟨S16384, .i1⟩
  | 51 => ⟨S_, .i32⟩
  | 52 => ⟨S16384, .i32⟩
  | 53 => ⟨S16384, .i32⟩
  | 54 => ⟨S16384, .i32⟩
  | 55 => ⟨S16384x1, .i32⟩
  | 56 => ⟨S32768x128, .f32⟩
  | 57 => ⟨S16x2048x128, .f32⟩
  | 58 => ⟨S16x1x128, .f32⟩
  | 59 => ⟨S16x2049x128, .f32⟩
  | 60 => ⟨S16x2049, .i1⟩
  | _ => ⟨S16x2048x32, .f32⟩

abbrev hbmTy (i : Nat) : BufTy := match i / 128 with
  | 0 => hbmTy0_0 i
  | 1 => hbmTy0_1 i
  | _ => ⟨S16x2048x32, .f32⟩

abbrev bufTy : (tb : Table) → Fin (tcTables nBuf tb) → BufTy
  | .hbm, ⟨i, _⟩ => hbmTy i
  | _, _ => ⟨S16x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_call0_c : Ref sig .tc := ⟨.hbm, 26, rfl⟩
abbrev main_call1_call0_v0 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_c_1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_2 : Ref sig .tc := ⟨.hbm, 39, rfl⟩
abbrev main_v16 : Ref sig .tc := ⟨.hbm, 40, rfl⟩
abbrev main_v17 : Ref sig .tc := ⟨.hbm, 41, rfl⟩
abbrev main_call2_call0_c : Ref sig .tc := ⟨.hbm, 42, rfl⟩
abbrev main_call2_call0_v0 : Ref sig .tc := ⟨.hbm, 43, rfl⟩
abbrev main_v18 : Ref sig .tc := ⟨.hbm, 44, rfl⟩
abbrev main_c_3 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_v5 : Ref sig .tc := ⟨.hbm, 51, rfl⟩
abbrev main_call3_v6 : Ref sig .tc := ⟨.hbm, 52, rfl⟩
abbrev main_call3_v7 : Ref sig .tc := ⟨.hbm, 53, rfl⟩
abbrev main_call3_v8 : Ref sig .tc := ⟨.hbm, 54, rfl⟩
abbrev main_call3_c : Ref sig .tc := ⟨.hbm, 55, rfl⟩
abbrev main_call3_v9 : Ref sig .tc := ⟨.hbm, 56, rfl⟩
abbrev main_call3_v10 : Ref sig .tc := ⟨.hbm, 57, rfl⟩
abbrev main_call3_v11 : Ref sig .tc := ⟨.hbm, 58, rfl⟩
abbrev main_call3_c_0 : Ref sig .tc := ⟨.hbm, 59, rfl⟩
abbrev main_call3_v12 : Ref sig .tc := ⟨.hbm, 60, rfl⟩
abbrev main_call3_v13 : Ref sig .tc := ⟨.hbm, 61, rfl⟩
abbrev main_v19 : Ref sig .tc := ⟨.hbm, 62, rfl⟩
abbrev main_c_4 : Ref sig .tc := ⟨.hbm, 63, rfl⟩
abbrev main_call4_v0 : Ref sig .tc := ⟨.hbm, 64, rfl⟩
abbrev main_call4_c : Ref sig .tc := ⟨.hbm, 65, rfl⟩
abbrev main_call4_v1 : Ref sig .tc := ⟨.hbm, 66, rfl⟩
abbrev main_call4_c_0 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_call4_c_1 : Ref sig .tc := ⟨.hbm, 71, rfl⟩
abbrev main_call4_v5 : Ref sig .tc := ⟨.hbm, 72, rfl⟩
abbrev main_call4_v6 : Ref sig .tc := ⟨.hbm, 73, rfl⟩
abbrev main_call4_c_2 : Ref sig .tc := ⟨.hbm, 74, rfl⟩
abbrev main_call4_v7 : Ref sig .tc := ⟨.hbm, 75, rfl⟩
abbrev main_call4_v8 : Ref sig .tc := ⟨.hbm, 76, rfl⟩
abbrev main_call4_c_3 : Ref sig .tc := ⟨.hbm, 77, rfl⟩
abbrev main_call4_v9 : Ref sig .tc := ⟨.hbm, 78, rfl⟩
abbrev main_call4_v10 : Ref sig .tc := ⟨.hbm, 79, rfl⟩
abbrev main_call4_v11 : Ref sig .tc := ⟨.hbm, 80, rfl⟩
abbrev main_call4_v12 : Ref sig .tc := ⟨.hbm, 81, rfl⟩
abbrev main_call4_v13 : Ref sig .tc := ⟨.hbm, 82, rfl⟩
abbrev main_call4_v14 : Ref sig .tc := ⟨.hbm, 83, rfl⟩
abbrev main_v20 : Ref sig .tc := ⟨.hbm, 84, rfl⟩
abbrev main_v21 : Ref sig .tc := ⟨.hbm, 85, rfl⟩
abbrev main_c_5 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_c_6 : Ref sig .tc := ⟨.hbm, 92, rfl⟩
abbrev main_v27 : Ref sig .tc := ⟨.hbm, 93, rfl⟩
abbrev main_call5_v0 : Ref sig .tc := ⟨.hbm, 94, rfl⟩
abbrev main_v28 : Ref sig .tc := ⟨.hbm, 95, rfl⟩
abbrev main_c_7 : Ref sig .tc := ⟨.hbm, 96, rfl⟩
abbrev main_call6_v0 : Ref sig .tc := ⟨.hbm, 97, rfl⟩
abbrev main_call6_v1 : Ref sig .tc := ⟨.hbm, 98, rfl⟩
abbrev main_call6_v2 : Ref sig .tc := ⟨.hbm, 99, rfl⟩
abbrev main_call6_v3 : Ref sig .tc := ⟨.hbm, 100, rfl⟩
abbrev main_call6_v4 : Ref sig .tc := ⟨.hbm, 101, rfl⟩
abbrev main_call6_v5 : Ref sig .tc := ⟨.hbm, 102, rfl⟩
abbrev main_call6_v6 : Ref sig .tc := ⟨.hbm, 103, rfl⟩
abbrev main_call6_v7 : Ref sig .tc := ⟨.hbm, 104, rfl⟩
abbrev main_call6_v8 : Ref sig .tc := ⟨.hbm, 105, rfl⟩
abbrev main_call6_c : Ref sig .tc := ⟨.hbm, 106, rfl⟩
abbrev main_call6_v9 : Ref sig .tc := ⟨.hbm, 107, rfl⟩
abbrev main_call6_v10 : Ref sig .tc := ⟨.hbm, 108, rfl⟩
abbrev main_call6_v11 : Ref sig .tc := ⟨.hbm, 109, rfl⟩
abbrev main_call6_c_0 : Ref sig .tc := ⟨.hbm, 110, rfl⟩
abbrev main_call6_v12 : Ref sig .tc := ⟨.hbm, 111, rfl⟩
abbrev main_call6_v13 : Ref sig .tc := ⟨.hbm, 112, rfl⟩
abbrev main_v29 : Ref sig .tc := ⟨.hbm, 113, rfl⟩
abbrev main_v30 : Ref sig .tc := ⟨.hbm, 114, rfl⟩
abbrev main_c_8 : Ref sig .tc := ⟨.hbm, 115, rfl⟩
abbrev main_v31 : Ref sig .tc := ⟨.hbm, 116, rfl⟩
abbrev main_v32 : Ref sig .tc := ⟨.hbm, 117, rfl⟩
abbrev main_c_9 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_c_10 : Ref sig .tc := ⟨.hbm, 124, rfl⟩
abbrev main_v38 : Ref sig .tc := ⟨.hbm, 125, rfl⟩
abbrev main_v39 : Ref sig .tc := ⟨.hbm, 126, rfl⟩
abbrev main_c_11 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_call7_cst : Ref sig .tc := ⟨.hbm, 138, rfl⟩
abbrev main_call7_v0 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_call8_cst : Ref sig .tc := ⟨.hbm, 145, rfl⟩
abbrev main_call8_v0 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_cst : Ref sig .tc := ⟨.hbm, 157, rfl⟩
abbrev main_v65 : Ref sig .tc := ⟨.hbm, 158, rfl⟩
abbrev main_v66 : Ref sig .tc := ⟨.hbm, 159, rfl⟩
abbrev main_v67 : Ref sig .tc := ⟨.hbm, 160, rfl⟩
abbrev main_cst_12 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_cst_13 : Ref sig .tc := ⟨.hbm, 165, rfl⟩
abbrev main_v71 : Ref sig .tc := ⟨.hbm, 166, rfl⟩
abbrev main_v72 : Ref sig .tc := ⟨.hbm, 167, rfl⟩
abbrev main_cst_14 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_cst_15 : Ref sig .tc := ⟨.hbm, 174, rfl⟩
abbrev main_v78 : Ref sig .tc := ⟨.hbm, 175, rfl⟩
abbrev main_c_16 : Ref sig .tc := ⟨.hbm, 176, rfl⟩
abbrev main_v79 : Ref sig .tc := ⟨.hbm, 177, rfl⟩
abbrev main_v80 : Ref sig .tc := ⟨.hbm, 178, rfl⟩
abbrev main_c_17 : Ref sig .tc := ⟨.hbm, 179, rfl⟩
abbrev main_v81 : Ref sig .tc := ⟨.hbm, 180, rfl⟩
abbrev main_v82 : Ref sig .tc := ⟨.hbm, 181, rfl⟩
abbrev main_v83 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩

abbrev nD : Nat := 1
abbrev τ : Topo := Topo.v7x

variable {F : FTy → Type} [FloatOps F]
-- ==== Proof.Body.lean ====
/- The kernel's body run once: what it leaves in its result, buffer by buffer. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffixV
public import Idealize.ShloMosaic.Lib.Pipeline.TableIdle
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's beside the transfers' counters. -/
local notation "𝕄" => MT nD τ sig Unit (Elt F) ℕ (Pipeline.UD sig nD τ) ℕ

abbrev featM : Memref sig .tc .hbm S16x2048x32 .f32 := Memref.whole main_arg0
abbrev pixM : Memref sig .tc .hbm S16384x256 .f32 := Memref.whole main_arg4
abbrev outM : Memref sig .tc .hbm S16x2049x128 .f32 := Memref.whole main_v4
abbrev pixS : Memref sig .tc .vmem S2x1024x256 .f32 := Memref.whole cc0_scratch0
abbrev featS : Memref sig .tc .vmem S2x1024x32 .f32 := Memref.whole cc0_scratch1
abbrev outS : Memref sig .tc .vmem S2x2049x128 .f32 := Memref.whole cc0_scratch2

abbrev BufOf (c : Dev nD) {sp : Space} {S : Shape} {e : EltTy} (M : Memref sig .tc sp S e) : Type := Buf (Elt F) (M.view.loc (c : Thread nD τ))
/-- A buffer held whole. -/
abbrev held (c : Dev nD) {sp : Space} {S : Shape} {e : EltTy} (M : Memref sig .tc sp S e) (f : BufOf (F := F) c M) : sProp 𝕄 :=
  M.view.loc (c : Thread nD τ) ↦{fullShare} f
/-- A staging buffer at the block it holds. -/
abbrev block (c : Dev nD) {S : Shape} {e : EltTy} (M : Memref sig .tc .vmem S e) (x : S.Idx → Elt F e) : sProp 𝕄 :=
  M.view.loc (c : Thread nD τ) ↦[M.view.set]{fullShare} M.view.rep x

set_option sl_exec.dmaWindow true in
set_option maxHeartbeats 4000000 in
noncomputable def bodyRun (c : Dev nD)
    (arg1 : Memref sig .tc .vmem S16x16 .f32) (harg1 : arg1.IsWhole) (x1 : Vec F S16x16 .f32)
    (arg2 : Memref sig .tc .vmem S16x256 .f32) (harg2 : arg2.IsWhole) (x2 : Vec F S16x256 .f32)
    (arg4 : Memref sig .tc .vmem S48x64 .f32) (harg4 : arg4.IsWhole) (x4 : Vec F S48x64 .f32)
    (arg5 : Memref sig .tc .vmem S1x64 .f32) (harg5 : arg5.IsWhole) (x5 : Vec F S1x64 .f32)
    (arg6 : Memref sig .tc .vmem S256x64 .f32) (harg6 : arg6.IsWhole) (x6 : Vec F S256x64 .f32)
    (arg7 : Memref sig .tc .vmem S1x64 .f32) (harg7 : arg7.IsWhole) (x7 : Vec F S1x64 .f32)
    (arg8 : Memref sig .tc .vmem S256x128 .f32) (harg8 : arg8.IsWhole) (x8 : Vec F S256x128 .f32)
    (arg9 : Memref sig .tc .vmem S1x128 .f32) (harg9 : arg9.IsWhole) (x9 : Vec F S1x128 .f32)
    (arg10 : Memref sig .tc .vmem S1x32 .f32) (harg10 : arg10.IsWhole) (x10 : Vec F S1x32 .f32)
    (arg11 : Memref sig .tc .vmem S160x128 .f32) (harg11 : arg11.IsWhole) (x11 : Vec F S160x128 .f32)
    (arg12 : Memref sig .tc .vmem S1x128 .f32) (harg12 : arg12.IsWhole) (x12 : Vec F S1x128 .f32)
    (g0 : BufOf (F := F) c featM) (g4 : BufOf (F := F) c pixM) (o : BufOf (F := F) c outM)
    (s0 : BufOf (F := F) c pixS) (s1 : BufOf (F := F) c featS) (s2 : BufOf (F := F) c outS) :
    { G : BufOf (F := F) c outM //
      ∀ (W : Waits sig Unit) (K : PUnit → sProp 𝕄),
        iprop(block c arg1 x1 ∗ block c arg2 x2 ∗ block c arg4 x4 ∗ block c arg5 x5 ∗ block c arg6 x6 ∗ block c arg7 x7
            ∗ block c arg8 x8 ∗ block c arg9 x9 ∗ block c arg10 x10 ∗ block c arg11 x11 ∗ block c arg12 x12
            ∗ held c featM g0 ∗ held c pixM g4 ∗ held c outM o
            ∗ held c pixS s0 ∗ held c featS s1 ∗ held c outS s2
            ∗ semVal ((c : Thread nD τ), SemLoc.dma 11) 0 ∗ semVal ((c : Thread nD τ), SemLoc.dma 12) 0
            ∗ semVal ((c : Thread nD τ), SemLoc.dma 13) 0 ∗ semVal ((c : Thread nD τ), SemLoc.dma 14) 0
            ∗ semVal ((c : Thread nD τ), SemLoc.dma 15) 0 ∗ semVal ((c : Thread nD τ), SemLoc.dma 16) 0
            ∗ owes (c : Thread nD τ) 0 W
            ∗ (iprop(block c arg1 x1 ∗ block c arg2 x2 ∗ block c arg4 x4 ∗ block c arg5 x5 ∗ block c arg6 x6 ∗ block c arg7 x7
            ∗ block c arg8 x8 ∗ block c arg9 x9 ∗ block c arg10 x10 ∗ block c arg11 x11 ∗ block c arg12 x12
            ∗ held c featM g0 ∗ held c pixM g4 ∗ held c outM G
            ∗ (∃ f, held c pixS f) ∗ (∃ f, held c featS f) ∗ (∃ f, held c outS f)
            ∗ semVal ((c : Thread nD τ), SemLoc.dma 11) 0 ∗ semVal ((c : Thread nD τ), SemLoc.dma 12) 0
            ∗ semVal ((c : Thread nD τ), SemLoc.dma 13) 0 ∗ semVal ((c : Thread nD τ), SemLoc.dma 14) 0
            ∗ semVal ((c : Thread nD τ), SemLoc.dma 15) 0 ∗ semVal ((c : Thread nD τ), SemLoc.dma 16) 0
                ∗ (∃ W', owes (c : Thread nD τ) 0 W')) -∗ K ⟨⟩))
          ⊢ wp frame (wpE (defs₀ (F := F)) Variants.none c none) Set.univ
              (cc0__body featM (Memref.isWhole_whole _) arg1 harg1 arg2 harg2 pixM (Memref.isWhole_whole _) arg4 harg4 arg5 harg5 arg6 harg6 arg7 harg7
                arg8 harg8 arg9 harg9 arg10 harg10 arg11 harg11 arg12 harg12 outM (Memref.isWhole_whole _)
                pixS (Memref.isWhole_whole _) featS (Memref.isWhole_whole _) outS (Memref.isWhole_whole _) cc0_scratch3 cc0_scratch4 cc0_scratch5) K } := by
  refine ⟨?_, fun W K => ?run⟩
  case run =>
    simp only [cc0__body_eq_skeleton]; unfold cc0__body_skel
    iintro ⟨H1, H2, H4, H5, H6, H7, H8, H9, H10, H11, H12, Hf, Hp, Ho, HS0, HS1, HS2, Hq11, Hq12, Hq13, Hq14, Hq15, Hq16, HW, Hk⟩
    sl_exec_parts
    sl_step
    iapply Hk
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [Hf]; · iexact Hf
    isplitl [Hp]; · iexact Hp
    isplitl [Ho]; · iexact Ho
    isplitl [HS0]; · iexists _; iexact HS0
    isplitl [HS1]; · iexists _; iexact HS1
    isplitl [HS2]; · iexists _; iexact HS2
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    iexists _; iexact HW

end Cert.KernelIdeal.Hand

end
-- ==== Proof.Block.lean ====
/- What the kernel computes, in its own operations: the event rows, one event's prong rows, and the slab of rows that
   each step of the body writes over the slot it sends out. -/
module

public import proofs.«01_k».proof.Proof.Gen.KernelIdeal

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The eleven small operands, each as the vector the body loads. -/
structure Small (F : FTy → Type) [FloatOps F] where
  extra : Vec F S16x16 .f32
  eventPix : Vec F S16x256 .f32
  wFeat : Vec F S48x64 .f32
  bFeat : Vec F S1x64 .f32
  wPix : Vec F S256x64 .f32
  bPix : Vec F S1x64 .f32
  wEvent : Vec F S256x128 .f32
  bEvent : Vec F S1x128 .f32
  pos : Vec F S1x32 .f32
  wComb : Vec F S160x128 .f32
  bComb : Vec F S1x128 .f32

/-- A vector of one constant. -/
abbrev fill (S : Shape) (w : BitVec 32) : FVec F S .f32 := broadcast S (Scalar.ofBits .f32 w : F .f32)
abbrev reluV {S : Shape} (x : FVec F S .f32) : FVec F S .f32 := maximumf x (fill S 0x00000000#32)
/-- The gelu in its tanh form: `x · (0.5 · (1 + tanh (0.797… · (x + 0.0447… · x³))))`. -/
abbrev geluV {S : Shape} (x : FVec F S .f32) : FVec F S .f32 :=
  mulf x (mulf (fill S 0x3F000000#32) (addf (fill S 0x3F800000#32)
    (tanh (mulf (fill S 0x3F4C422A#32) (addf x (mulf (fill S 0x3D372713#32) (mulf x (mulf x x))))))))

variable (x : Small F)

def wComb16 : FVec F S160x128 .bf16 := truncf .bf16 x.wComb bitsLt_bf16_f32
def wFeat16 : FVec F S48x64 .bf16 := truncf .bf16 x.wFeat bitsLt_bf16_f32

/-- The row every combined row adds: the position row through its rows of the last weight, and the bias. -/
def shift : FVec F S1x128 .f32 :=
  addf (matmul dot_S1x32_S32x128_S1x128_1_0_0_1_n_n none (truncf .bf16 x.pos bitsLt_bf16_f32)
      (extractStridedSlice S32x128 ![128, 0] (wComb16 x) slices_S160x128_o128_0_S32x128) (constant S1x128 .f32 0x00000000#32))
    (shapeCast S1x128 x.bComb shapeCasts_S1x128_S1x128)

/-- The event rows before the gelu. -/
def eventPre : FVec F S16x128 .f32 :=
  addf (matmul dot_S16x128_S128x128_S16x128_1_0_0_1_n_n none
      (truncf .bf16 (reluV (addf
        (matmul dot_S16x256_S256x128_S16x128_1_0_0_1_n_n none (truncf .bf16 x.eventPix bitsLt_bf16_f32)
          (truncf .bf16 x.wEvent bitsLt_bf16_f32) (constant S16x128 .f32 0x00000000#32))
        (broadcastTo S16x128 (shapeCast S1x128 x.bEvent shapeCasts_S1x128_S1x128) broadcasts_S1x128_S16x128))) bitsLt_bf16_f32)
      (extractStridedSlice S128x128 ![0, 0] (wComb16 x) slices_S160x128_o0_0_S128x128) (constant S16x128 .f32 0x00000000#32))
    (broadcastTo S16x128 (shift x) broadcasts_S1x128_S16x128)
/-- The event rows. -/
def eventRows : FVec F S16x128 .f32 := geluV (eventPre x)

/-- Each event's extra features through their rows of the feature weight, and the bias. -/
def extraRows : FVec F S16x64 .f32 :=
  addf (matmul dot_S16x16_S16x64_S16x64_1_0_0_1_n_n none (truncf .bf16 x.extra bitsLt_bf16_f32)
      (extractStridedSlice S16x64 ![32, 0] (wFeat16 x) slices_S48x64_o32_0_S16x64) (constant S16x64 .f32 0x00000000#32))
    (broadcastTo S16x64 (shapeCast S1x64 x.bFeat shapeCasts_S1x64_S1x64) broadcasts_S1x64_S16x64)

/-- One event's row is a slice of the sixteen. -/
theorem slicesExtra (b : ℕ) : S16x64.Slices ![b % 16, 0] S1x64 := by
  have h := Nat.mod_lt b (show 0 < 16 by decide)
  refine ⟨rfl, fun a => ?_⟩
  fin_cases a <;> simp [Shape.size] <;> omega
theorem slicesEvent (b : ℕ) : S16x128.Slices ![b % 16, 0] S1x128 := by
  have h := Nat.mod_lt b (show 0 < 16 by decide)
  refine ⟨rfl, fun a => ?_⟩
  fin_cases a <;> simp [Shape.size] <;> omega

/-- The pixel embedding of an event's prongs. -/
def pixEmb (pix : Vec F S1x1024x256 .f32) : FVec F S1024x64 .f32 :=
  reluV (addf (matmul dot_S1024x256_S256x64_S1024x64_1_0_0_1_n_n none
      (truncf .bf16 (shapeCast S1024x256 pix shapeCasts_S1x1024x256_S1024x256) bitsLt_bf16_f32)
      (truncf .bf16 x.wPix bitsLt_bf16_f32) (constant S1024x64 .f32 0x00000000#32))
    (broadcastTo S1024x64 (shapeCast S1x64 x.bPix shapeCasts_S1x64_S1x64) broadcasts_S1x64_S1024x64))

/-- The feature embedding of event `b`'s prongs. -/
def featEmb (b : ℕ) (feat : Vec F S1x1024x32 .f32) : FVec F S1024x64 .f32 :=
  reluV (addf (matmul dot_S1024x32_S32x64_S1024x64_1_0_0_1_n_n none
      (truncf .bf16 (shapeCast S1024x32 feat shapeCasts_S1x1024x32_S1024x32) bitsLt_bf16_f32)
      (extractStridedSlice S32x64 ![0, 0] (wFeat16 x) slices_S48x64_o0_0_S32x64) (constant S1024x64 .f32 0x00000000#32))
    (broadcastTo S1024x64 (extractStridedSlice S1x64 ![b % 16, 0] (extraRows x) (slicesExtra b)) broadcasts_S1x64_S1024x64))

/-- Event `b`'s prong rows before the gelu. -/
def prongPre (b : ℕ) (pix : Vec F S1x1024x256 .f32) (feat : Vec F S1x1024x32 .f32) : FVec F S1024x128 .f32 :=
  addf (addf
      (matmul dot_S1024x64_S64x128_S1024x128_1_0_0_1_n_n none (truncf .bf16 (featEmb x b feat) bitsLt_bf16_f32)
        (extractStridedSlice S64x128 ![0, 0] (wComb16 x) slices_S160x128_o0_0_S64x128) (constant S1024x128 .f32 0x00000000#32))
      (matmul dot_S1024x64_S64x128_S1024x128_1_0_0_1_n_n none (truncf .bf16 (pixEmb x pix) bitsLt_bf16_f32)
        (extractStridedSlice S64x128 ![64, 0] (wComb16 x) slices_S160x128_o64_0_S64x128) (constant S1024x128 .f32 0x00000000#32)))
    (broadcastTo S1024x128 (shift x) broadcasts_S1x128_S1024x128)

/-- The slab step `b` writes over its slot: the event's row, then its prong rows. -/
def slab (b : ℕ) (pix : Vec F S1x1024x256 .f32) (feat : Vec F S1x1024x32 .f32) : FVec F S1x1025x128 .f32 :=
  shapeCast S1x1025x128 (concatenate S1025x128 0
    [⟨S1x128, extractStridedSlice S1x128 ![b % 16, 0] (eventRows x) (slicesEvent b)⟩, ⟨S1024x128, geluV (prongPre x b pix feat)⟩]
    concatenates_S1x128_S1024x128_S1025x128_d0) shapeCasts_S1025x128_S1x1025x128
/-- The zero slab each slot starts from. -/
def zeroSlab : FVec F S1x2049x128 .f32 :=
  shapeCast S1x2049x128 (fill S2049x128 0x00000000#32) shapeCasts_S2049x128_S1x2049x128

end Cert.KernelIdeal.Hand

end
-- ==== Proof.Values.lean ====
/- What the body's run leaves in its result, written as recursions over its sixteen steps. -/
module

public import proofs.«01_k».proof.Proof.Body
public import proofs.«01_k».proof.Proof.Block
public import Idealize.ShloMosaic.Lib.VecWindow
import Mathlib.Tactic.IntervalCases

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI

variable {F : FTy → Type} [FloatOps F]

/-! The parts of the buffers the steps move: a slot of two, an event of sixteen. -/

theorem inbPixSlot (n : ℕ) : ∀ a, (![n % 2, 0, 0] : Fin 3 → ℕ) a + S1x1024x256.size a ≤ S2x1024x256.size a := by
  have h := Nat.mod_lt n (show 0 < 2 by decide)
  intro a; fin_cases a <;> simp [Shape.size] <;> omega
theorem inbFeatSlot (n : ℕ) : ∀ a, (![n % 2, 0, 0] : Fin 3 → ℕ) a + S1x1024x32.size a ≤ S2x1024x32.size a := by
  have h := Nat.mod_lt n (show 0 < 2 by decide)
  intro a; fin_cases a <;> simp [Shape.size] <;> omega
theorem inbOutSlot (n : ℕ) : ∀ a, (![n % 2, 0, 0] : Fin 3 → ℕ) a + S1x2049x128.size a ≤ S2x2049x128.size a := by
  have h := Nat.mod_lt n (show 0 < 2 by decide)
  intro a; fin_cases a <;> simp [Shape.size] <;> omega
theorem inbOutRows (n : ℕ) : ∀ a, (![n % 2, 0, 0] : Fin 3 → ℕ) a + S1x1025x128.size a ≤ S2x2049x128.size a := by
  have h := Nat.mod_lt n (show 0 < 2 by decide)
  intro a; fin_cases a <;> simp [Shape.size] <;> omega
theorem inbPixRows (n : ℕ) : ∀ a, (![1024 * (n % 16), 0] : Fin 2 → ℕ) a + S1024x256.size a ≤ S16384x256.size a := by
  have h := Nat.mod_lt n (show 0 < 16 by decide)
  intro a; fin_cases a <;> simp [Shape.size] <;> omega
theorem inbFeatRows (n : ℕ) : ∀ a, (![n % 16, 0, 0] : Fin 3 → ℕ) a + S1x1024x32.size a ≤ S16x2048x32.size a := by
  have h := Nat.mod_lt n (show 0 < 16 by decide)
  intro a; fin_cases a <;> simp [Shape.size] <;> omega
theorem inbEvent (n : ℕ) : ∀ a, (![n % 16, 0, 0] : Fin 3 → ℕ) a + S1x2049x128.size a ≤ S16x2049x128.size a := by
  have h := Nat.mod_lt n (show 0 < 16 by decide)
  intro a; fin_cases a <;> simp [Shape.size] <;> omega

abbrev pixSlot (n : ℕ) : Memref sig .tc .vmem S1024x256 .f32 :=
  (pixS.slice (Rect.unit ![n % 2, 0, 0] S1x1024x256.size (inbPixSlot n)) (fun _ => rfl)).squeeze S1024x256 squeezes_S1x1024x256_S1024x256
abbrev featSlot (n : ℕ) : Memref sig .tc .vmem S1024x32 .f32 :=
  (featS.slice (Rect.unit ![n % 2, 0, 0] S1x1024x32.size (inbFeatSlot n)) (fun _ => rfl)).squeeze S1024x32 squeezes_S1x1024x32_S1024x32
abbrev outSlot (n : ℕ) : Memref sig .tc .vmem S2049x128 .f32 :=
  (outS.slice (Rect.unit ![n % 2, 0, 0] S1x2049x128.size (inbOutSlot n)) (fun _ => rfl)).squeeze S2049x128 squeezes_S1x2049x128_S2049x128
abbrev pixPart (n : ℕ) : Memref sig .tc .hbm S1024x256 .f32 :=
  pixM.slice (Rect.unit ![1024 * (n % 16), 0] S1024x256.size (inbPixRows n)) (fun _ => rfl)
abbrev featPart (n : ℕ) : Memref sig .tc .hbm S1024x32 .f32 :=
  (featM.slice (Rect.unit ![n % 16, 0, 0] S1x1024x32.size (inbFeatRows n)) (fun _ => rfl)).squeeze S1024x32 squeezes_S1x1024x32_S1024x32
abbrev outPart (n : ℕ) : Memref sig .tc .hbm S2049x128 .f32 :=
  (outM.slice (Rect.unit ![n % 16, 0, 0] S1x2049x128.size (inbEvent n)) (fun _ => rfl)).squeeze S2049x128 squeezes_S1x2049x128_S2049x128

variable (c : Dev nD) (x : Small F) (g0 : BufOf (F := F) c featM) (g4 : BufOf (F := F) c pixM)

/-- The pixel scratch after the first `n` events' fetches. -/
def pixBuf (s0 : BufOf (F := F) c pixS) : ℕ → BufOf (F := F) c pixS
  | 0 => s0
  | n + 1 => View.write (Elt F) (pixSlot n).view (pixBuf s0 n) (ReadAs.same.apply (View.read (Elt F) (pixPart n).view g4)) Finset.univ
/-- The feature scratch after the first `n` events' fetches. -/
def featBuf (s1 : BufOf (F := F) c featS) : ℕ → BufOf (F := F) c featS
  | 0 => s1
  | n + 1 => View.write (Elt F) (featSlot n).view (featBuf s1 n) (ReadAs.same.apply (View.read (Elt F) (featPart n).view g0)) Finset.univ

/-- What step `b` loads of its slot: by then the next event's fetch was issued as well, when there is one. -/
def pixAt (s0 : BufOf (F := F) c pixS) (b : ℕ) : Vec F S1x1024x256 .f32 :=
  View.readAt (Elt F) pixS.view (Rect.unit (s := S2x1024x256) ![b % 2, 0, 0] S1x1024x256.size (inbPixSlot b)).toLoadRect (pixBuf c g4 s0 (min (b + 2) 16))
def featAt (s1 : BufOf (F := F) c featS) (b : ℕ) : Vec F S1x1024x32 .f32 :=
  View.readAt (Elt F) featS.view (Rect.unit (s := S2x1024x32) ![b % 2, 0, 0] S1x1024x32.size (inbFeatSlot b)).toLoadRect (featBuf c g0 s1 (min (b + 2) 16))

/-- The stores to the result scratch through step `n`, the last one first. -/
def pieces (s0 : BufOf (F := F) c pixS) (s1 : BufOf (F := F) c featS) : ℕ → List (View.Piece (Elt F) S2x2049x128 .f32)
  | 0 => [⟨Rect.unit ![1, 0, 0] S1x2049x128.size inb_S2x2049x128_S1x2049x128_1_0_0, zeroSlab⟩,
      ⟨Rect.unit ![0, 0, 0] S1x2049x128.size inb_S2x2049x128_S1x2049x128_0_0_0, zeroSlab⟩]
  | n + 1 => ⟨Rect.unit ![n % 2, 0, 0] S1x1025x128.size (inbOutRows n), slab x n (pixAt c g4 s0 n) (featAt c g0 s1 n)⟩ :: pieces s0 s1 n

/-- The result after the first `n` events are sent, each off its slot of the scratch after its step's stores `L`. -/
def outBuf (L : ℕ → List (View.Piece (Elt F) S2x2049x128 .f32)) (o : BufOf (F := F) c outM) (s2 : BufOf (F := F) c outS) : ℕ → BufOf (F := F) c outM
  | 0 => o
  | n + 1 => View.write (Elt F) (outPart n).view (outBuf L o s2 n)
      (ReadAs.same.apply (View.read (Elt F) (outSlot n).view (outS.view.writes (Elt F) s2 (L (n + 1))))) Finset.univ

/-- The small operands as the body loads them off their staging buffers. -/
def loaded (arg1 : Memref sig .tc .vmem S16x16 .f32) (x1 : Vec F S16x16 .f32)
    (arg2 : Memref sig .tc .vmem S16x256 .f32) (x2 : Vec F S16x256 .f32)
    (arg4 : Memref sig .tc .vmem S48x64 .f32) (x4 : Vec F S48x64 .f32)
    (arg5 : Memref sig .tc .vmem S1x64 .f32) (x5 : Vec F S1x64 .f32)
    (arg6 : Memref sig .tc .vmem S256x64 .f32) (x6 : Vec F S256x64 .f32)
    (arg7 : Memref sig .tc .vmem S1x64 .f32) (x7 : Vec F S1x64 .f32)
    (arg8 : Memref sig .tc .vmem S256x128 .f32) (x8 : Vec F S256x128 .f32)
    (arg9 : Memref sig .tc .vmem S1x128 .f32) (x9 : Vec F S1x128 .f32)
    (arg10 : Memref sig .tc .vmem S1x32 .f32) (x10 : Vec F S1x32 .f32)
    (arg11 : Memref sig .tc .vmem S160x128 .f32) (x11 : Vec F S160x128 .f32)
    (arg12 : Memref sig .tc .vmem S1x128 .f32) (x12 : Vec F S1x128 .f32) : Small F where
  extra := View.readAt (Elt F) arg1.view (Rect.unit ![0, 0] S16x16.size inb_S16x16_S16x16_0_0).toLoadRect (arg1.view.rep x1)
  eventPix := View.readAt (Elt F) arg2.view (Rect.unit ![0, 0] S16x256.size inb_S16x256_S16x256_0_0).toLoadRect (arg2.view.rep x2)
  wFeat := View.readAt (Elt F) arg4.view (Rect.unit ![0, 0] S48x64.size inb_S48x64_S48x64_0_0).toLoadRect (arg4.view.rep x4)
  bFeat := View.readAt (Elt F) arg5.view (Rect.unit ![0, 0] S1x64.size inb_S1x64_S1x64_0_0).toLoadRect (arg5.view.rep x5)
  wPix := View.readAt (Elt F) arg6.view (Rect.unit ![0, 0] S256x64.size inb_S256x64_S256x64_0_0).toLoadRect (arg6.view.rep x6)
  bPix := View.readAt (Elt F) arg7.view (Rect.unit ![0, 0] S1x64.size inb_S1x64_S1x64_0_0).toLoadRect (arg7.view.rep x7)
  wEvent := View.readAt (Elt F) arg8.view (Rect.unit ![0, 0] S256x128.size inb_S256x128_S256x128_0_0).toLoadRect (arg8.view.rep x8)
  bEvent := View.readAt (Elt F) arg9.view (Rect.unit ![0, 0] S1x128.size inb_S1x128_S1x128_0_0).toLoadRect (arg9.view.rep x9)
  pos := View.readAt (Elt F) arg10.view (Rect.unit ![0, 0] S1x32.size inb_S1x32_S1x32_0_0).toLoadRect (arg10.view.rep x10)
  wComb := View.readAt (Elt F) arg11.view (Rect.unit ![0, 0] S160x128.size inb_S160x128_S160x128_0_0).toLoadRect (arg11.view.rep x11)
  bComb := View.readAt (Elt F) arg12.view (Rect.unit ![0, 0] S1x128.size inb_S1x128_S1x128_0_0).toLoadRect (arg12.view.rep x12)

/-- Loading the whole of a staging buffer is the block it holds. -/
theorem loaded_eq (arg1 : Memref sig .tc .vmem S16x16 .f32) (x1 : Vec F S16x16 .f32)
    (arg2 : Memref sig .tc .vmem S16x256 .f32) (x2 : Vec F S16x256 .f32)
    (arg4 : Memref sig .tc .vmem S48x64 .f32) (x4 : Vec F S48x64 .f32)
    (arg5 : Memref sig .tc .vmem S1x64 .f32) (x5 : Vec F S1x64 .f32)
    (arg6 : Memref sig .tc .vmem S256x64 .f32) (x6 : Vec F S256x64 .f32)
    (arg7 : Memref sig .tc .vmem S1x64 .f32) (x7 : Vec F S1x64 .f32)
    (arg8 : Memref sig .tc .vmem S256x128 .f32) (x8 : Vec F S256x128 .f32)
    (arg9 : Memref sig .tc .vmem S1x128 .f32) (x9 : Vec F S1x128 .f32)
    (arg10 : Memref sig .tc .vmem S1x32 .f32) (x10 : Vec F S1x32 .f32)
    (arg11 : Memref sig .tc .vmem S160x128 .f32) (x11 : Vec F S160x128 .f32)
    (arg12 : Memref sig .tc .vmem S1x128 .f32) (x12 : Vec F S1x128 .f32) :
    loaded arg1 x1 arg2 x2 arg4 x4 arg5 x5 arg6 x6 arg7 x7 arg8 x8 arg9 x9 arg10 x10 arg11 x11 arg12 x12
      = ⟨x1, x2, x4, x5, x6, x7, x8, x9, x10, x11, x12⟩ := by
  unfold loaded
  congr 1 <;> exact View.readAt_rep_full _ _ _

/-! The run's own names for its loads and stores, by step. -/

/-- Step `n`'s load of its pixel slot. -/
def runPix (c : Dev nD) (g4 : BufOf (F := F) c pixM) (s0 : BufOf (F := F) c pixS) : ℕ → Vec F S1x1024x256 .f32
  | 0 => bodyRun.sl.v88 c g4 s0
  | 1 => bodyRun.sl.v165 c g4 s0
  | 2 => bodyRun.sl.v248 c g4 s0
  | 3 => bodyRun.sl.v331 c g4 s0
  | 4 => bodyRun.sl.v414 c g4 s0
  | 5 => bodyRun.sl.v497 c g4 s0
  | 6 => bodyRun.sl.v580 c g4 s0
  | 7 => bodyRun.sl.v663 c g4 s0
  | 8 => bodyRun.sl.v746 c g4 s0
  | 9 => bodyRun.sl.v829 c g4 s0
  | 10 => bodyRun.sl.v912 c g4 s0
  | 11 => bodyRun.sl.v995 c g4 s0
  | 12 => bodyRun.sl.v1078 c g4 s0
  | 13 => bodyRun.sl.v1161 c g4 s0
  | 14 => bodyRun.sl.v1244 c g4 s0
  | _ => bodyRun.sl.v1316 c g4 s0
/-- Step `n`'s load of its feature slot. -/
def runFeat (c : Dev nD) (g0 : BufOf (F := F) c featM) (s1 : BufOf (F := F) c featS) : ℕ → Vec F S1x1024x32 .f32
  | 0 => bodyRun.sl.v100 c g0 s1
  | 1 => bodyRun.sl.v177 c g0 s1
  | 2 => bodyRun.sl.v260 c g0 s1
  | 3 => bodyRun.sl.v343 c g0 s1
  | 4 => bodyRun.sl.v426 c g0 s1
  | 5 => bodyRun.sl.v509 c g0 s1
  | 6 => bodyRun.sl.v592 c g0 s1
  | 7 => bodyRun.sl.v675 c g0 s1
  | 8 => bodyRun.sl.v758 c g0 s1
  | 9 => bodyRun.sl.v841 c g0 s1
  | 10 => bodyRun.sl.v924 c g0 s1
  | 11 => bodyRun.sl.v1007 c g0 s1
  | 12 => bodyRun.sl.v1090 c g0 s1
  | 13 => bodyRun.sl.v1173 c g0 s1
  | 14 => bodyRun.sl.v1256 c g0 s1
  | _ => bodyRun.sl.v1328 c g0 s1

/-- What a load of the run is a function of: the operands' staging buffers and contents, and the four buffers the transfers move. -/
abbrev StoresOf (F : FTy → Type) [FloatOps F] : Type :=
  (c : Dev nD) →
    Memref sig .tc .vmem S16x16 .f32 → Vec F S16x16 .f32 →
    Memref sig .tc .vmem S16x256 .f32 → Vec F S16x256 .f32 →
    Memref sig .tc .vmem S48x64 .f32 → Vec F S48x64 .f32 →
    Memref sig .tc .vmem S1x64 .f32 → Vec F S1x64 .f32 →
    Memref sig .tc .vmem S256x64 .f32 → Vec F S256x64 .f32 →
    Memref sig .tc .vmem S1x64 .f32 → Vec F S1x64 .f32 →
    Memref sig .tc .vmem S256x128 .f32 → Vec F S256x128 .f32 →
    Memref sig .tc .vmem S1x128 .f32 → Vec F S1x128 .f32 →
    Memref sig .tc .vmem S1x32 .f32 → Vec F S1x32 .f32 →
    Memref sig .tc .vmem S160x128 .f32 → Vec F S160x128 .f32 →
    Memref sig .tc .vmem S1x128 .f32 → Vec F S1x128 .f32 →
    BufOf (F := F) c featM → BufOf (F := F) c pixM → BufOf (F := F) c pixS → BufOf (F := F) c featS → List (View.Piece (Elt F) S2x2049x128 .f32)

/-- The stores to the result scratch before step `n`. -/
def runStores : ℕ → StoresOf F
  | 0 => fun _ _ _ _ _ _ _ _ _ _ _ _ _ _ _ _ _ _ _ _ _ _ _ _ _ _ _ => bodyRun.sl.HS2_2
  | 1 => bodyRun.sl.HS2_3
  | 2 => bodyRun.sl.HS2_4
  | 3 => bodyRun.sl.HS2_5
  | 4 => bodyRun.sl.HS2_6
  | 5 => bodyRun.sl.HS2_7
  | 6 => bodyRun.sl.HS2_8
  | 7 => bodyRun.sl.HS2_9
  | 8 => bodyRun.sl.HS2_10
  | 9 => bodyRun.sl.HS2_11
  | 10 => bodyRun.sl.HS2_12
  | 11 => bodyRun.sl.HS2_13
  | 12 => bodyRun.sl.HS2_14
  | 13 => bodyRun.sl.HS2_15
  | 14 => bodyRun.sl.HS2_16
  | 15 => bodyRun.sl.HS2_17
  | _ => bodyRun.sl.HS2_18

theorem runPix_eq (s0 : BufOf (F := F) c pixS) : ∀ n < 16, runPix c g4 s0 n = pixAt c g4 s0 n := by
  intro n hn
  interval_cases n <;> rfl
theorem runFeat_eq (s1 : BufOf (F := F) c featS) : ∀ n < 16, runFeat c g0 s1 n = featAt c g0 s1 n := by
  intro n hn
  interval_cases n <;> rfl

section Run
variable
    (arg1 : Memref sig .tc .vmem S16x16 .f32) (x1 : Vec F S16x16 .f32)
    (arg2 : Memref sig .tc .vmem S16x256 .f32) (x2 : Vec F S16x256 .f32)
    (arg4 : Memref sig .tc .vmem S48x64 .f32) (x4 : Vec F S48x64 .f32)
    (arg5 : Memref sig .tc .vmem S1x64 .f32) (x5 : Vec F S1x64 .f32)
    (arg6 : Memref sig .tc .vmem S256x64 .f32) (x6 : Vec F S256x64 .f32)
    (arg7 : Memref sig .tc .vmem S1x64 .f32) (x7 : Vec F S1x64 .f32)
    (arg8 : Memref sig .tc .vmem S256x128 .f32) (x8 : Vec F S256x128 .f32)
    (arg9 : Memref sig .tc .vmem S1x128 .f32) (x9 : Vec F S1x128 .f32)
    (arg10 : Memref sig .tc .vmem S1x32 .f32) (x10 : Vec F S1x32 .f32)
    (arg11 : Memref sig .tc .vmem S160x128 .f32) (x11 : Vec F S160x128 .f32)
    (arg12 : Memref sig .tc .vmem S1x128 .f32) (x12 : Vec F S1x128 .f32)
    (s0 : BufOf (F := F) c pixS) (s1 : BufOf (F := F) c featS)

set_option maxHeartbeats 4000000 in
/-- Each step adds one store: its slab over its slot. -/
theorem runStores_step : ∀ n < 16,
    runStores (n + 1) c arg1 x1 arg2 x2 arg4 x4 arg5 x5 arg6 x6 arg7 x7 arg8 x8 arg9 x9 arg10 x10 arg11 x11 arg12 x12 g0 g4 s0 s1
      = ⟨Rect.unit ![n % 2, 0, 0] S1x1025x128.size (inbOutRows n),
          slab (loaded arg1 x1 arg2 x2 arg4 x4 arg5 x5 arg6 x6 arg7 x7 arg8 x8 arg9 x9 arg10 x10 arg11 x11 arg12 x12) n (runPix c g4 s0 n) (runFeat c g0 s1 n)⟩
        :: runStores n c arg1 x1 arg2 x2 arg4 x4 arg5 x5 arg6 x6 arg7 x7 arg8 x8 arg9 x9 arg10 x10 arg11 x11 arg12 x12 g0 g4 s0 s1 := by
  intro n hn
  interval_cases n <;> rfl

theorem runStores_eq : ∀ n ≤ 16,
    runStores n c arg1 x1 arg2 x2 arg4 x4 arg5 x5 arg6 x6 arg7 x7 arg8 x8 arg9 x9 arg10 x10 arg11 x11 arg12 x12 g0 g4 s0 s1
      = pieces c (loaded arg1 x1 arg2 x2 arg4 x4 arg5 x5 arg6 x6 arg7 x7 arg8 x8 arg9 x9 arg10 x10 arg11 x11 arg12 x12) g0 g4 s0 s1 n := by
  intro n
  induction n with
  | zero => intro _; rfl
  | succ n ih =>
    intro hn
    rw [runStores_step c g0 g4 arg1 x1 arg2 x2 arg4 x4 arg5 x5 arg6 x6 arg7 x7 arg8 x8 arg9 x9 arg10 x10 arg11 x11 arg12 x12 s0 s1 n (by omega), ih (by omega),
      runPix_eq c g4 s0 n (by omega), runFeat_eq c g0 s1 n (by omega)]
    rfl

end Run

set_option maxHeartbeats 4000000 in
/-- The body's run leaves the recursion's result. -/
theorem bodyRun_val
    (arg1 : Memref sig .tc .vmem S16x16 .f32) (harg1 : arg1.IsWhole) (x1 : Vec F S16x16 .f32)
    (arg2 : Memref sig .tc .vmem S16x256 .f32) (harg2 : arg2.IsWhole) (x2 : Vec F S16x256 .f32)
    (arg4 : Memref sig .tc .vmem S48x64 .f32) (harg4 : arg4.IsWhole) (x4 : Vec F S48x64 .f32)
    (arg5 : Memref sig .tc .vmem S1x64 .f32) (harg5 : arg5.IsWhole) (x5 : Vec F S1x64 .f32)
    (arg6 : Memref sig .tc .vmem S256x64 .f32) (harg6 : arg6.IsWhole) (x6 : Vec F S256x64 .f32)
    (arg7 : Memref sig .tc .vmem S1x64 .f32) (harg7 : arg7.IsWhole) (x7 : Vec F S1x64 .f32)
    (arg8 : Memref sig .tc .vmem S256x128 .f32) (harg8 : arg8.IsWhole) (x8 : Vec F S256x128 .f32)
    (arg9 : Memref sig .tc .vmem S1x128 .f32) (harg9 : arg9.IsWhole) (x9 : Vec F S1x128 .f32)
    (arg10 : Memref sig .tc .vmem S1x32 .f32) (harg10 : arg10.IsWhole) (x10 : Vec F S1x32 .f32)
    (arg11 : Memref sig .tc .vmem S160x128 .f32) (harg11 : arg11.IsWhole) (x11 : Vec F S160x128 .f32)
    (arg12 : Memref sig .tc .vmem S1x128 .f32) (harg12 : arg12.IsWhole) (x12 : Vec F S1x128 .f32)
    (o : BufOf (F := F) c outM) (s0 : BufOf (F := F) c pixS) (s1 : BufOf (F := F) c featS) (s2 : BufOf (F := F) c outS) :
    (bodyRun c arg1 harg1 x1 arg2 harg2 x2 arg4 harg4 x4 arg5 harg5 x5 arg6 harg6 x6 arg7 harg7 x7 arg8 harg8 x8 arg9 harg9 x9
        arg10 harg10 x10 arg11 harg11 x11 arg12 harg12 x12 g0 g4 o s0 s1 s2).1
      = outBuf c (pieces c (loaded arg1 x1 arg2 x2 arg4 x4 arg5 x5 arg6 x6 arg7 x7 arg8 x8 arg9 x9 arg10 x10 arg11 x11 arg12 x12) g0 g4 s0 s1) o s2 16 := by
  have h : (bodyRun c arg1 harg1 x1 arg2 harg2 x2 arg4 harg4 x4 arg5 harg5 x5 arg6 harg6 x6 arg7 harg7 x7 arg8 harg8 x8 arg9 harg9 x9
        arg10 harg10 x10 arg11 harg11 x11 arg12 harg12 x12 g0 g4 o s0 s1 s2).1
      = outBuf c (fun n => runStores n c arg1 x1 arg2 x2 arg4 x4 arg5 x5 arg6 x6 arg7 x7 arg8 x8 arg9 x9 arg10 x10 arg11 x11 arg12 x12 g0 g4 s0 s1) o s2 16 := rfl
  rw [h]
  have key : ∀ n ≤ 16, outBuf c (fun n => runStores n c arg1 x1 arg2 x2 arg4 x4 arg5 x5 arg6 x6 arg7 x7 arg8 x8 arg9 x9 arg10 x10 arg11 x11 arg12 x12 g0 g4 s0 s1) o s2 n
      = outBuf c (pieces c (loaded arg1 x1 arg2 x2 arg4 x4 arg5 x5 arg6 x6 arg7 x7 arg8 x8 arg9 x9 arg10 x10 arg11 x11 arg12 x12) g0 g4 s0 s1) o s2 n := by
    intro n
    induction n with
    | zero => intro _; rfl
    | succ n ih =>
      intro hn
      unfold outBuf
      rw [ih (by omega), runStores_eq c g0 g4 arg1 x1 arg2 x2 arg4 x4 arg5 x5 arg6 x6 arg7 x7 arg8 x8 arg9 x9 arg10 x10 arg11 x11 arg12 x12 s0 s1 (n + 1) hn]
  exact key 16 le_rfl

end Cert.KernelIdeal.Hand

end
-- ==== Proof.Slots.lean ====
/- A slot of a buffer of slots: the buffer sliced at one leading coordinate, that axis squeezed away. What a read through
   it reads, and what a write of the whole of it leaves. -/
module

public import Idealize.ShloMosaic.Lib.ValueIdxCore
public import Idealize.ShloMosaic.Lib.ValueIdxCoords
public import Idealize.ShloMosaic.Lib.Exec.Geometry
public import Idealize.ShloMosaic.Lib.Writes
public import Idealize.ShloMosaic.Lib.WritesUnit

@[expose] public section

namespace Cert.Slots

open Idealize.ShloMosaic Idealize.ShloMosaic.ValueIdx

variable {sig : RefSig} {κ : Kind} {sp : Space} {G R C : ℕ} {e : EltTy} {Val : EltTy → Type}
variable (M : Memref sig κ sp ⟨3, ![G, R, C]⟩ e) {off : Fin 3 → ℕ} (g : Fin G) (hoff : off = ![g.val, 0, 0])
  (inb : ∀ a, off a + (⟨3, ![1, R, C]⟩ : Shape).size a ≤ (⟨3, ![G, R, C]⟩ : Shape).size a)
  (hr : ∀ a, (Rect.unit (s := ⟨3, ![G, R, C]⟩) off (⟨3, ![1, R, C]⟩ : Shape).size inb).stride a = 1)
  (hq : (⟨3, ![1, R, C]⟩ : Shape).Squeezes ⟨2, ![R, C]⟩)

include hoff in
/-- Where a slot's index lies in the buffer. -/
theorem emb_slot (r : Fin R) (l : Fin C) :
    (Rect.unit (s := ⟨3, ![G, R, C]⟩) off (⟨3, ![1, R, C]⟩ : Shape).size inb).emb (Shape.reshapeEquiv hq.numel_eq (ix2 r l)) = ix3 g r l := by
  subst hoff
  have h := Shape.reshapeEquiv_cons_one hq.numel_eq (ix2 r l)
  rw [h]
  funext a
  apply Fin.ext
  rw [Rect.emb_apply]
  match a with
  | ⟨0, _⟩ => show g.val + 1 * 0 = g.val; omega
  | ⟨1, _⟩ => show 0 + 1 * r.val = r.val; omega
  | ⟨2, _⟩ => show 0 + 1 * l.val = l.val; omega

include hoff in
/-- A read through a slot reads the buffer at that slot. -/
theorem read_slot (f : M.view.ty.Contents Val) (r : Fin R) (l : Fin C) :
    ((M.slice (Rect.unit (s := ⟨3, ![G, R, C]⟩) off (⟨3, ![1, R, C]⟩ : Shape).size inb) hr).squeeze ⟨2, ![R, C]⟩ hq).view.read Val f (ix2 r l)
      = M.view.read Val f (ix3 g r l) := by
  rw [← emb_slot g hoff inb hq r l]
  rfl

include hoff in
/-- A write of a whole slot, read at that slot: the payload. -/
theorem read_write_slot (f : M.view.ty.Contents Val) (w : (⟨2, ![R, C]⟩ : Shape).Idx → Val e) (r : Fin R) (l : Fin C) :
    M.view.read Val (((M.slice (Rect.unit (s := ⟨3, ![G, R, C]⟩) off (⟨3, ![1, R, C]⟩ : Shape).size inb) hr).squeeze ⟨2, ![R, C]⟩ hq).view.write Val f w
        Finset.univ) (ix3 g r l) = w (ix2 r l) :=
  (read_slot M g hoff inb hr hq _ r l).symm.trans (View.read_write_of_mem _ _ (Finset.mem_univ _))

include hoff in
/-- A write of a whole slot, read at another slot: what was there. -/
theorem read_write_other (f : M.view.ty.Contents Val) (w : (⟨2, ![R, C]⟩ : Shape).Idx → Val e) (g' : Fin G) (hg : g' ≠ g) (r : Fin R) (l : Fin C) :
    M.view.read Val (((M.slice (Rect.unit (s := ⟨3, ![G, R, C]⟩) off (⟨3, ![1, R, C]⟩ : Shape).size inb) hr).squeeze ⟨2, ![R, C]⟩ hq).view.write Val f w
        Finset.univ) (ix3 g' r l) = M.view.read Val f (ix3 g' r l) := by
  rw [View.read_apply, View.read_apply, View.write_of_not_mem]
  intro hm
  obtain ⟨x, -, hx⟩ := Finset.mem_map.mp hm
  obtain ⟨r', l', rfl⟩ : ∃ (r' : Fin R) (l' : Fin C), x = ix2 r' l' := ⟨x 0, x 1, eq_ix2 x⟩
  have hx' : M.view.emb ((Rect.unit (s := ⟨3, ![G, R, C]⟩) off (⟨3, ![1, R, C]⟩ : Shape).size inb).emb
      (Shape.reshapeEquiv hq.numel_eq (ix2 r' l'))) = M.view.emb (ix3 g' r l) := hx
  rw [emb_slot g hoff inb hq] at hx'
  exact hg (congrFun (M.view.emb.injective hx') 0).symm

include hoff in
/-- A load of a slot reads the buffer at that slot. -/
theorem readAt_slot (f : M.view.ty.Contents Val) (y : (⟨3, ![1, R, C]⟩ : Shape).Idx) :
    M.view.readAt Val (Rect.unit (s := ⟨3, ![G, R, C]⟩) off (⟨3, ![1, R, C]⟩ : Shape).size inb).toLoadRect f y = M.view.read Val f (ix3 g (y 1) (y 2)) := by
  subst hoff
  refine congrArg (M.view.read Val f) (funext fun a => Fin.ext ?_)
  have h0 : (y 0).val < 1 := (y 0).isLt
  match a with
  | ⟨0, _⟩ => show g.val + 1 * (y 0).val = g.val; omega
  | ⟨1, _⟩ => show 0 + 1 * (y 1).val = (y 1).val; omega
  | ⟨2, _⟩ => show 0 + 1 * (y 2).val = (y 2).val; omega

end Cert.Slots

end
-- ==== Proof.Result.lean ====
/- The body's result in closed form: each event's slab, then zeros, whatever the result and the scratch held. -/
module

public import proofs.«01_k».proof.Proof.Values
public import proofs.«01_k».proof.Proof.Slots

@[expose] public section

set_option maxRecDepth 16384

noncomputable section

namespace Cert.KernelIdeal.Hand

open Cert.KernelIdeal Cert.KernelIdeal.Gen Cert.Slots
open Idealize.ShloMosaic Idealize.ShloMosaic.TcCoe Idealize.ShloMosaic.ValueIdx
open Idealize.SL Idealize.SL.RA Idealize.SL.BI

variable {F : FTy → Type} [FloatOps F]
variable (c : Dev nD) (x : Small F) (g0 : BufOf (F := F) c featM) (g4 : BufOf (F := F) c pixM)

/-- Which of the two slots step `n` uses. -/
def par (n : ℕ) : Fin 2 := ⟨n % 2, Nat.mod_lt _ (by decide)⟩
/-- The event of step `n`. -/
def ev (n : ℕ) : Fin 16 := ⟨n % 16, Nat.mod_lt _ (by decide)⟩

theorem par_succ_ne (n : ℕ) : par n ≠ par (n + 1) := by
  intro h; have := congrArg Fin.val h; simp only [par] at this; omega
theorem par_add_two (n : ℕ) : par (n + 2) = par n := Fin.ext (by simp only [par]; omega)

/-- Event `n`'s prongs' pixels and features, as the body loads them. -/
def pixBlk (n : ℕ) : Vec F S1x1024x256 .f32 := fun y =>
  (pixM : Memref sig .tc .hbm S16384x256 .f32).view.read (Elt F) g4
    (ix2 ⟨1024 * (n % 16) + (y 1).val, by have h1 : (y 1).val < 1024 := (y 1).isLt; have := Nat.mod_lt n (show 0 < 16 by decide); omega⟩ (y 2))
def featBlk (n : ℕ) : Vec F S1x1024x32 .f32 := fun y =>
  (featM : Memref sig .tc .hbm S16x2048x32 .f32).view.read (Elt F) g0
    (ix3 (ev n) ⟨(y 1).val, by have h1 : (y 1).val < 1024 := (y 1).isLt; omega⟩ (y 2))

theorem read_pixPart (n : ℕ) (r : Fin 1024) (l : Fin 256) :
    (pixPart n).view.read (Elt F) g4 (ix2 r l) = pixBlk c g4 n (ix3 0 r l) := by
  refine congrArg ((pixM : Memref sig .tc .hbm S16384x256 .f32).view.read (Elt F) g4) (funext fun a => Fin.ext ?_)
  match a with
  | ⟨0, _⟩ => show 1024 * (n % 16) + 1 * r.val = 1024 * (n % 16) + r.val; omega
  | ⟨1, _⟩ => show 0 + 1 * l.val = l.val; omega
theorem read_featPart (n : ℕ) (r : Fin 1024) (l : Fin 32) :
    (featPart n).view.read (Elt F) g0 (ix2 r l) = featBlk c g0 n (ix3 0 r l) := by
  have h : (Rect.unit (s := S16x2048x32) ![n % 16, 0, 0] S1x1024x32.size (inbFeatRows n)).emb
      (Shape.reshapeEquiv squeezes_S1x1024x32_S1024x32.numel_eq (ix2 r l)) = ix3 (ev n) ⟨r.val, by omega⟩ l := by
    have h1 := Shape.reshapeEquiv_cons_one squeezes_S1x1024x32_S1024x32.numel_eq (ix2 r l)
    rw [h1]
    funext a
    apply Fin.ext
    rw [Rect.emb_apply]
    match a with
    | ⟨0, _⟩ => show n % 16 + 1 * 0 = n % 16; omega
    | ⟨1, _⟩ => show 0 + 1 * r.val = r.val; omega
    | ⟨2, _⟩ => show 0 + 1 * l.val = l.val; omega
  exact congrArg ((featM : Memref sig .tc .hbm S16x2048x32 .f32).view.read (Elt F) g0) h

/-- The slot step `n` loads holds event `n` once fetched, and still after the next event's fetch. -/
theorem read_pixBuf (s0 : BufOf (F := F) c pixS) (n : ℕ) (r : Fin 1024) (l : Fin 256) :
    pixS.view.read (Elt F) (pixBuf c g4 s0 (n + 1)) (ix3 (par n) r l) = pixBlk c g4 n (ix3 0 r l) :=
  (read_write_slot pixS (par n) rfl (inbPixSlot n) _ _ _ _ r l).trans (read_pixPart c g4 n r l)
theorem read_pixBuf' (s0 : BufOf (F := F) c pixS) (n : ℕ) (r : Fin 1024) (l : Fin 256) :
    pixS.view.read (Elt F) (pixBuf c g4 s0 (n + 2)) (ix3 (par n) r l) = pixBlk c g4 n (ix3 0 r l) :=
  (read_write_other pixS (par (n + 1)) rfl (inbPixSlot (n + 1)) _ _ _ _ (par n) (par_succ_ne n) r l).trans (read_pixBuf c g4 s0 n r l)
theorem read_featBuf (s1 : BufOf (F := F) c featS) (n : ℕ) (r : Fin 1024) (l : Fin 32) :
    featS.view.read (Elt F) (featBuf c g0 s1 (n + 1)) (ix3 (par n) r l) = featBlk c g0 n (ix3 0 r l) :=
  (read_write_slot featS (par n) rfl (inbFeatSlot n) _ _ _ _ r l).trans (read_featPart c g0 n r l)
theorem read_featBuf' (s1 : BufOf (F := F) c featS) (n : ℕ) (r : Fin 1024) (l : Fin 32) :
    featS.view.read (Elt F) (featBuf c g0 s1 (n + 2)) (ix3 (par n) r l) = featBlk c g0 n (ix3 0 r l) :=
  (read_write_other featS (par (n + 1)) rfl (inbFeatSlot (n + 1)) _ _ _ _ (par n) (par_succ_ne n) r l).trans (read_featBuf c g0 s1 n r l)

theorem ix3_zero_eq {R C : ℕ} (y : (⟨3, ![1, R, C]⟩ : Shape).Idx) : ix3 (0 : Fin 1) (y 1) (y 2) = y := by
  refine Eq.trans ?_ (eq_ix3 y).symm
  have h : (0 : Fin 1) = y 0 := Subsingleton.elim _ _
  exact congrArg (fun q : Fin 1 => ix3 q (y 1) (y 2)) h

theorem pixAt_eq (s0 : BufOf (F := F) c pixS) (n : ℕ) (hn : n < 16) : pixAt c g4 s0 n = pixBlk c g4 n := by
  funext y
  refine (readAt_slot pixS (par n) rfl (inbPixSlot n) _ y).trans ?_
  rcases Nat.lt_or_ge n 15 with h | h
  · rw [show min (n + 2) 16 = n + 2 by omega]
    exact (read_pixBuf' c g4 s0 n (y 1) (y 2)).trans (congrArg _ (ix3_zero_eq y))
  · rw [show min (n + 2) 16 = n + 1 by omega]
    exact (read_pixBuf c g4 s0 n (y 1) (y 2)).trans (congrArg _ (ix3_zero_eq y))
theorem featAt_eq (s1 : BufOf (F := F) c featS) (n : ℕ) (hn : n < 16) : featAt c g0 s1 n = featBlk c g0 n := by
  funext y
  refine (readAt_slot featS (par n) rfl (inbFeatSlot n) _ y).trans ?_
  rcases Nat.lt_or_ge n 15 with h | h
  · rw [show min (n + 2) 16 = n + 2 by omega]
    exact (read_featBuf' c g0 s1 n (y 1) (y 2)).trans (congrArg _ (ix3_zero_eq y))
  · rw [show min (n + 2) 16 = n + 1 by omega]
    exact (read_featBuf c g0 s1 n (y 1) (y 2)).trans (congrArg _ (ix3_zero_eq y))

/-- The value the zero slabs hold. -/
abbrev zero : Elt F .f32 := Scalar.ofBits .f32 0x00000000#32

/-- The rows past an event's prongs stay zero in both slots. -/
theorem read_tail (s0 : BufOf (F := F) c pixS) (s1 : BufOf (F := F) c featS) (s2 : BufOf (F := F) c outS) (q : Fin 2) (i : Fin 2049) (j : Fin 128)
    (hi : 1025 ≤ i.val) : ∀ n, outS.view.read (Elt F) (outS.view.writes (Elt F) s2 (pieces c x g0 g4 s0 s1 n)) (ix3 q i j) = zero
  | 0 => by
    unfold pieces
    rcases (by omega : q.val = 1 ∨ q.val = 0) with h | h
    · exact View.read_writes_cons_unit_of_mem outS.view s2 inb_S2x2049x128_S1x2049x128_1_0_0 zeroSlab _ _ (ix3 0 i j) rfl fun a => by
        match a with
        | ⟨0, _⟩ => show q.val = 1 + 0; omega
        | ⟨1, _⟩ => show i.val = 0 + i.val; omega
        | ⟨2, _⟩ => show j.val = 0 + j.val; omega
    · refine (View.read_writes_cons_unit_of_not_mem outS.view s2 inb_S2x2049x128_S1x2049x128_1_0_0 zeroSlab _ _ rfl 0 (Or.inl ?_)).trans ?_
      · show q.val < 1; omega
      exact View.read_writes_cons_unit_of_mem outS.view s2 inb_S2x2049x128_S1x2049x128_0_0_0 zeroSlab _ _ (ix3 0 i j) rfl fun a => by
        match a with
        | ⟨0, _⟩ => show q.val = 0 + 0; omega
        | ⟨1, _⟩ => show i.val = 0 + i.val; omega
        | ⟨2, _⟩ => show j.val = 0 + j.val; omega
  | n + 1 => (View.read_writes_cons_unit_of_not_mem outS.view s2 (inbOutRows n) _ _ (ix3 q i j) rfl 1
      (Or.inr (by show 0 + 1025 ≤ i.val; omega))).trans (read_tail s0 s1 s2 q i j hi n)

/-- Row `i` of event `n`'s part of the result. -/
def outRow (n : ℕ) (i : Fin 2049) (j : Fin 128) : Elt F .f32 :=
  if h : i.val < 1025 then slab x n (pixBlk c g4 n) (featBlk c g0 n) (ix3 0 ⟨i.val, h⟩ j) else zero

/-- What step `n` sends. -/
theorem read_sent (s0 : BufOf (F := F) c pixS) (s1 : BufOf (F := F) c featS) (s2 : BufOf (F := F) c outS) (n : ℕ) (hn : n < 16) (i : Fin 2049) (j : Fin 128) :
    (outSlot n).view.read (Elt F) (outS.view.writes (Elt F) s2 (pieces c x g0 g4 s0 s1 (n + 1))) (ix2 i j) = outRow c x g0 g4 n i j := by
  refine (read_slot outS (par n) rfl (inbOutSlot n) _ _ _ i j).trans ?_
  unfold outRow
  split
  · next h =>
    refine (View.read_writes_cons_unit_of_mem outS.view s2 (inbOutRows n) _ _ _ (ix3 0 ⟨i.val, h⟩ j) rfl fun a => ?_).trans
      (by rw [pixAt_eq c g4 s0 n hn, featAt_eq c g0 s1 n hn])
    match a with
    | ⟨0, _⟩ => show n % 2 = n % 2 + 0; omega
    | ⟨1, _⟩ => show i.val = 0 + i.val; omega
    | ⟨2, _⟩ => show j.val = 0 + j.val; omega
  · next h => exact read_tail c x g0 g4 s0 s1 s2 (par n) i j (by omega) (n + 1)

/-- The result after the first `n` events holds each of those events' rows. -/
theorem read_outBuf (o : BufOf (F := F) c outM) (s0 : BufOf (F := F) c pixS) (s1 : BufOf (F := F) c featS) (s2 : BufOf (F := F) c outS)
    (b : Fin 16) (i : Fin 2049) (j : Fin 128) :
    ∀ n ≤ 16, b.val < n → outM.view.read (Elt F) (outBuf c (pieces c x g0 g4 s0 s1) o s2 n) (ix3 b i j) = outRow c x g0 g4 b.val i j
  | 0, _, h => absurd h (Nat.not_lt_zero _)
  | n + 1, hn, h => by
    by_cases hb : b.val = n
    · have he : b = ev n := Fin.ext (by simp only [ev]; omega)
      rw [he]
      refine (read_write_slot outM (ev n) rfl (inbEvent n) _ _ _ _ i j).trans ?_
      refine (read_sent c x g0 g4 s0 s1 s2 n (by omega) i j).trans ?_
      rw [show (ev n).val = n by simp only [ev]; omega]
    · refine (read_write_other outM (ev n) rfl (inbEvent n) _ _ _ _ b (fun he => hb ?_) i j).trans
        (read_outBuf o s0 s1 s2 b i j n (by omega) (by omega))
      rw [he]; simp only [ev]; omega

/-- The result the kernel leaves. -/
def kout : BufOf (F := F) c outM := fun i : S16x2049x128.Idx => outRow c x g0 g4 (i 0).val (i 1) (i 2)

theorem outBuf_eq (o : BufOf (F := F) c outM) (s0 : BufOf (F := F) c pixS) (s1 : BufOf (F := F) c featS) (s2 : BufOf (F := F) c outS) :
    outBuf c (pieces c x g0 g4 s0 s1) o s2 16 = kout c x g0 g4 := by
  refine funext fun i : S16x2049x128.Idx => ?_
  have h := read_outBuf c x g0 g4 o s0 s1 s2 (i 0) (i 1) (i 2) 16 le_rfl (i 0).isLt
  exact (congrArg (outM.view.read (Elt F) (outBuf c (pieces c x g0 g4 s0 s1) o s2 16)) (eq_ix3 i)).trans h

end Cert.KernelIdeal.Hand

end
-- ==== Proof.Run.lean ====
/- The kernel's run: the launch around the body, the arguments unchanged, every semaphore at zero, and both results
   named. -/
module

public import proofs.«01_k».proof.Proof.Result

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's six transfer semaphores. -/
abbrev osem0 : Fin 6 → SemLoc sig := fun j =>
  (![SemLoc.dma 11, SemLoc.dma 12, SemLoc.dma 13, SemLoc.dma 14, SemLoc.dma 15, SemLoc.dma 16] : Fin 6 → SemLoc sig) j
theorem ownSemFacts0 : Pipeline.OwnSemFacts spec0 osem0 := by decide

theorem ownSems00_eq (c : Dev nD) :
    (Pipeline.ownSems0 (Val := Elt F) (Name := ℕ) (U := Pipeline.UD sig nD τ) (Lvl := ℕ) osem0 c : sProp 𝕄)
      = iprop(semVal ((c : Thread nD τ), SemLoc.dma 11) 0 ∗ semVal ((c : Thread nD τ), SemLoc.dma 12) 0
        ∗ semVal ((c : Thread nD τ), SemLoc.dma 13) 0 ∗ semVal ((c : Thread nD τ), SemLoc.dma 14) 0
        ∗ semVal ((c : Thread nD τ), SemLoc.dma 15) 0 ∗ semVal ((c : Thread nD τ), SemLoc.dma 16) 0) := by
  rw [Pipeline.ownSems0_eq_of_list c osem0 [0, 1, 2, 3, 4, 5] (by decide) (by decide)]; rfl

/-- The arrays the body reads where they lie, and the one it writes. -/
def H0 : Finset (Ref sig .tc) := {main_arg0, main_arg4}
def R0 : Finset (Ref sig .tc) := {main_v4}
theorem H0_sub : H0 ⊆ Pipeline.restRefs sig spec0 := by decide
theorem R0_sub : R0 ⊆ Pipeline.restRefs sig spec0 \ H0 := by decide

variable (m : (ℓ : Loc nD τ sig) → Buf (Elt F) ℓ) (ρ : Dev nD → PrngReg)

/-- The small operands as the region finds them. -/
def smallOf (c : Dev nD) : Small F :=
  ⟨iblk m c 0 t0_0, iblk m c 1 t0_0, iblk m c 2 t0_0, iblk m c 3 t0_0, iblk m c 4 t0_0, iblk m c 5 t0_0,
    iblk m c 6 t0_0, iblk m c 7 t0_0, iblk m c 8 t0_0, iblk m c 9 t0_0, iblk m c 10 t0_0⟩

/-- The first result. -/
def result (c : Dev nD) : Buf (Elt F) ((c : Thread nD τ).loc main_v4) :=
  kout c (smallOf m c) (V m c main_arg0) (V m c main_arg4)

/-- The written array after the region. -/
def G (c : Dev nD) : (b : Ref sig .tc) → Buf (Elt F) ((c : Thread nD τ).loc b) :=
  Function.update (V m c) main_v4 (result m c)
theorem G_v4 (c : Dev nD) : G m c main_v4 = result m c := Function.update_self ..

theorem inv_eq (c : Dev nD) (X : (c : Dev nD) → (b : Ref sig .tc) → Buf (Elt F) ((c : Thread nD τ).loc b)) :
    (Pipeline.ΦDRV osem0 spec0 H0 R0 (V m) X c : sProp 𝕄)
      = iprop(((∃ f, held c pixS f) ∗ (∃ f, held c featS f) ∗ (∃ f, held c outS f))
        ∗ (semVal ((c : Thread nD τ), SemLoc.dma 11) 0 ∗ semVal ((c : Thread nD τ), SemLoc.dma 12) 0
          ∗ semVal ((c : Thread nD τ), SemLoc.dma 13) 0 ∗ semVal ((c : Thread nD τ), SemLoc.dma 14) 0
          ∗ semVal ((c : Thread nD τ), SemLoc.dma 15) 0 ∗ semVal ((c : Thread nD τ), SemLoc.dma 16) 0)
        ∗ (held c featM (V m c main_arg0) ∗ held c pixM (V m c main_arg4))
        ∗ held c outM (X c main_v4)) := by
  unfold Pipeline.ΦDRV
  rw [scopedRest0_eq, ownSems00_eq,
    BI.bigSep_eq_bigSepL_of_eq (S := H0) [main_arg0, main_arg4] (by decide) (by decide),
    BI.bigSep_eq_bigSepL_of_eq (S := R0) [main_v4] (by decide) (by decide)]
  rfl

/-- The proof data of the one pipeline: every staged operand left as found, and the written array at the result once the
    point is done. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ t := Pipeline.ΦDRV osem0 spec0 H0 R0 (V m) (if t.val = 0 then V m else G m) c
  q _ := fullShare
  owed _ := 0

theorem A_eq (c : Dev nD) (w : Fin cfg0.W) : (dats m 0 c).A w = V m c (Pipeline.arrRef spec0 w) := by
  dsimp only [dats]
/-- Every operand's staging buffer ends at the operand, and starts there too. -/
theorem after_eq (c : Dev nD) (t : Fin cfg0.N) :
    (dats m 0 c).after 0 t = iblk m c 0 t ∧ (dats m 0 c).after 1 t = iblk m c 1 t ∧ (dats m 0 c).after 2 t = iblk m c 2 t ∧ (dats m 0 c).after 3 t = iblk m c 3 t ∧ (dats m 0 c).after 4 t = iblk m c 4 t ∧ (dats m 0 c).after 5 t = iblk m c 5 t ∧ (dats m 0 c).after 6 t = iblk m c 6 t ∧ (dats m 0 c).after 7 t = iblk m c 7 t ∧ (dats m 0 c).after 8 t = iblk m c 8 t ∧ (dats m 0 c).after 9 t = iblk m c 9 t ∧ (dats m 0 c).after 10 t = iblk m c 10 t := by
  dsimp only [dats]
  exact ⟨rfl, rfl, rfl, rfl, rfl, rfl, rfl, rfl, rfl, rfl, rfl⟩
theorem before_eq (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) ∧ (∀ d, (dats m 0 c).before 5 t d = iblk m c 5 t) ∧ (∀ d, (dats m 0 c).before 6 t d = iblk m c 6 t) ∧ (∀ d, (dats m 0 c).before 7 t d = iblk m c 7 t) ∧ (∀ d, (dats m 0 c).before 8 t d = iblk m c 8 t) ∧ (∀ d, (dats m 0 c).before 9 t d = iblk m c 9 t) ∧ (∀ d, (dats m 0 c).before 10 t d = iblk m c 10 t) := by
  refine ⟨?_, ?_, ?_, ?_, ?_, ?_, ?_, ?_, ?_, ?_, ?_⟩ <;> intro d <;>
  exact ((dats m 0 c).before_in_eq_fetched _ rfl (fun _ => rfl) (fun _ _ _ => rfl)
      (fun t => by simp only [after_eq]; unfold Dat.blockOf iblk; rw [A_eq]; try rfl) t d).trans
    (by unfold Dat.fetched Dat.blockOf iblk; rw [A_eq]; try rfl)

/-- The body's run at the launch's operands. -/
abbrev stepRun (c : Dev nD) (o : BufOf (F := F) c outM) (s0 : BufOf (F := F) c pixS) (s1 : BufOf (F := F) c featS) (s2 : BufOf (F := F) c outS) :=
  bodyRun c (st0_0 t0_0) (hstage0_0 0) (iblk m c 0 t0_0) (st0_1 t0_0) (hstage0_1 0) (iblk m c 1 t0_0) (st0_2 t0_0) (hstage0_2 0) (iblk m c 2 t0_0) (st0_3 t0_0) (hstage0_3 0) (iblk m c 3 t0_0) (st0_4 t0_0) (hstage0_4 0) (iblk m c 4 t0_0) (st0_5 t0_0) (hstage0_5 0) (iblk m c 5 t0_0) (st0_6 t0_0) (hstage0_6 0) (iblk m c 6 t0_0) (st0_7 t0_0) (hstage0_7 0) (iblk m c 7 t0_0) (st0_8 t0_0) (hstage0_8 0) (iblk m c 8 t0_0) (st0_9 t0_0) (hstage0_9 0) (iblk m c 9 t0_0) (st0_10 t0_0) (hstage0_10 0) (iblk m c 10 t0_0) (V m c main_arg0) (V m c main_arg4) o s0 s1 s2

theorem result_step (c : Dev nD) (o : BufOf (F := F) c outM) (s0 : BufOf (F := F) c pixS) (s1 : BufOf (F := F) c featS) (s2 : BufOf (F := F) c outS) :
    (stepRun m c o s0 s1 s2).1 = result m c :=
  (bodyRun_val c (V m c main_arg0) (V m c main_arg4) (st0_0 t0_0) (hstage0_0 0) (iblk m c 0 t0_0) (st0_1 t0_0) (hstage0_1 0) (iblk m c 1 t0_0) (st0_2 t0_0) (hstage0_2 0) (iblk m c 2 t0_0) (st0_3 t0_0) (hstage0_3 0) (iblk m c 3 t0_0) (st0_4 t0_0) (hstage0_4 0) (iblk m c 4 t0_0) (st0_5 t0_0) (hstage0_5 0) (iblk m c 5 t0_0) (st0_6 t0_0) (hstage0_6 0) (iblk m c 6 t0_0) (st0_7 t0_0) (hstage0_7 0) (iblk m c 7 t0_0) (st0_8 t0_0) (hstage0_8 0) (iblk m c 8 t0_0) (st0_9 t0_0) (hstage0_9 0) (iblk m c 9 t0_0) (st0_10 t0_0) (hstage0_10 0) (iblk m c 10 t0_0) o s0 s1 s2).trans
    ((congrArg (fun x => outBuf c (pieces c x (V m c main_arg0) (V m c main_arg4) s0 s1) o s2 16) (loaded_eq ..)).trans
      (outBuf_eq c (smallOf m c) (V m c main_arg0) (V m c main_arg4) o s0 s1 s2))

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [show (dats m 0 c).Φ t0_0.castSucc = Pipeline.ΦDRV osem0 spec0 H0 R0 (V m) (V m) c from rfl,
    show (dats m 0 c).Φ t0_0.succ = Pipeline.ΦDRV osem0 spec0 H0 R0 (V m) (G m) c from rfl, inv_eq, inv_eq, G_v4]
  unfold Dat.owesAt Pipeline.owesWithin
  rw [show (dats m 0 c).owed t0_0.castSucc = 0 from rfl, show (dats m 0 c).owed t0_0.succ = 0 from rfl]
  simp only [after_eq m c t0_0, before_eq m c t0_0, owns_eq_rep]
  iintro ⟨⟨⟨⟨%s0, S0⟩, ⟨%s1, S1⟩, ⟨%s2, S2⟩⟩, ⟨Q0, Q1, Q2, Q3, Q4, Q5⟩, ⟨Hf, Hp⟩, Ho⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [← result_step m c (V m c main_v4) s0 s1 s2]
  iapply ((stepRun m c (V m c main_v4) s0 s1 s2).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hf]; · iexact Hf
  isplitl [Hp]; · iexact Hp
  isplitl [Ho]; · iexact Ho
  isplitl [S0]; · iexact S0
  isplitl [S1]; · iexact S1
  isplitl [S2]; · iexact S2
  isplitl [Q0]; · iexact Q0
  isplitl [Q1]; · iexact Q1
  isplitl [Q2]; · iexact Q2
  isplitl [Q3]; · iexact Q3
  isplitl [Q4]; · iexact Q4
  isplitl [Q5]; · iexact Q5
  isplitl [HW]; · iexact HW
  iintro ⟨H0, H1, H2, H3, H4, H5, H6, H7, H8, H9, H10, Hf, Hp, Ho, HS0, HS1, HS2, Q0, Q1, Q2, Q3, Q4, Q5, ⟨%W', HW'⟩⟩
  isplitl [HS0 HS1 HS2 Q0 Q1 Q2 Q3 Q4 Q5 Hf Hp Ho]
  · isplitl [HS0 HS1 HS2]
    · isplitl [HS0]; · iexact HS0
      isplitl [HS1]; · iexact HS1
      iexact HS2
    isplitl [Q0 Q1 Q2 Q3 Q4 Q5]
    · isplitl [Q0]; · iexact Q0
      isplitl [Q1]; · iexact Q1
      isplitl [Q2]; · iexact Q2
      isplitl [Q3]; · iexact Q3
      isplitl [Q4]; · iexact Q4
      iexact Q5
    isplitl [Hf Hp]
    · isplitl [Hf]; · iexact Hf
      iexact Hp
    iexact Ho
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The buffers once the region and the operations after it are done. -/
abbrev final (c : Dev nD) : Valuation τ sig (Elt F) :=
  StableHlo.after ([hostOps1] : List (List (HloOp τ sig (Elt F)))).flatten
    (Pipeline.withArrays spec0 c (Pipeline.withR (V0 m c) R0 c (G m c)) fun w => (dats m 0 c).arrAt w cfg0.N)

set_option backward.isDefEq.respectTransparency.types false in
theorem run_main : θ_run defs (onTc (τ := τ) (main (F := F))) ⟨m, fun _ => 0, ρ⟩ (fun r => ((∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = final m c (Proc.devRef .tc b))) ∧ r.2.sem = fun _ => 0) :=
  Pipeline.θ_run_frame_dmaR_aroundV cfgs (dats m) (0 : Fin 1) launch0 osem0 defs₀ Variants.none ownSemFacts0 H0 R0 H0_sub R0_sub m ρ main
    (fun c => (body_obligation m c).loose) (fun c => (dats m 0 c).share_full fun _ => rfl)
    (fun _ _ => rfl) (V0 m) [hostOps1] sfx_sub sfx_fresh sfx_keeps (G m)
    (Pipeline.hmain_around cfgs 0 defs₀ Variants.none m main [hostOps0] [hostOps1] (by simp only [List.Forall]; exact hostOps0_sub)
      (by simp only [List.Forall]; exact hostOps0_fresh) main_chain)
    (A_eq m) (fun _ => .rfl) (fun _ => .rfl) _ (fun r h => h)

/-- A buffer that no operation writes and that is no staged operand ends as the region found it. -/
theorem final_keeps (c : Dev nD) (b : Ref sig .tc) (h5 : b ≠ main_v5) (hw : ∀ w, Pipeline.arrRef spec0 w ≠ b) (hR : b ∉ R0) :
    final m c (Proc.devRef .tc b) = V m c b := by
  unfold final
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.binary_writes, Finset.mem_singleton]
      exact StableHlo.devRef_ne_of_ne h5)),
    Pipeline.withArrays_of_ne _ c _ _ b hw, Pipeline.withR_of_not_mem _ _ _ _ b hR]

theorem final_v4 (c : Dev nD) : final m c (Proc.devRef .tc main_v4) = result m c := by
  unfold final
  rw [StableHlo.after_of_forall_not_mem (b := Proc.devRef .tc main_v4) _ _ (List.forall_iff_forall_mem.mp (by
      simp only [hostOps1, List.flatten_cons, List.flatten_nil, List.append_nil, List.cons_append,
        List.nil_append, List.Forall, StableHlo.binary_writes, Finset.mem_singleton]
      exact StableHlo.devRef_ne_of_ne (by decide))),
    Pipeline.withArrays_of_ne _ c _ _ main_v4 (by exact (by decide : ∀ w, Pipeline.arrRef spec0 w ≠ main_v4)),
    Pipeline.withR_of_mem _ _ _ _ main_v4 (by decide), G_v4]

/-- The second result: the two masks, one after the other. -/
def masks (c : Dev nD) : Buf (Elt F) ((c : Thread nD τ).loc main_v5) :=
  concatenate S16x2049 1 [⟨S16x1, m ((c : Thread nD τ).loc main_arg3)⟩, ⟨S16x2048, m ((c : Thread nD τ).loc main_arg5)⟩]
    concatenates_S16x1_S16x2048_S16x2049_d1

theorem final_v5 (c : Dev nD) : final m c (Proc.devRef .tc main_v5) = masks m c := by
  have h : ∀ W : Valuation τ sig (Elt F), StableHlo.after ([hostOps1] : List (List (HloOp τ sig (Elt F)))).flatten W (Proc.devRef .tc main_v5)
      = concatenate S16x2049 1 [⟨S16x1, W (Proc.devRef .tc main_arg3)⟩, ⟨S16x2048, W (Proc.devRef .tc main_arg5)⟩]
        concatenates_S16x1_S16x2048_S16x2049_d1 := fun W => by
    simp only [List.flatten_cons, List.flatten_nil, List.append_nil, StableHlo.after_cons, StableHlo.after_nil]
    rfl
  unfold final masks
  rw [h,
    Pipeline.withArrays_of_ne _ c _ _ main_arg3 (by exact (by decide : ∀ w, Pipeline.arrRef spec0 w ≠ main_arg3)),
    Pipeline.withR_of_not_mem _ _ _ _ main_arg3 (by decide),
    Pipeline.withArrays_of_ne _ c _ _ main_arg5 (by exact (by decide : ∀ w, Pipeline.arrRef spec0 w ≠ main_arg5)),
    Pipeline.withR_of_not_mem _ _ _ _ main_arg5 (by decide)]
  exact congrArg₂ (fun a b => concatenate S16x2049 1 [⟨S16x1, a⟩, ⟨S16x2048, b⟩] concatenates_S16x1_S16x2048_S16x2049_d1)
    (V_main_arg3 m c) (V_main_arg5 m c)

/-- The kernel's run: both results named, every argument as launched, every semaphore at zero. -/
theorem run : θ_run defs (onTc (τ := τ) (main (F := F))) ⟨m, fun _ => 0, ρ⟩ (fun r => (∀ c : Dev nD,
      r.2.mem ((c.tc : Thread nD τ).loc main_v4) = result m c
      ∧ r.2.mem ((c.tc : Thread nD τ).loc main_v5) = masks m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r ⟨h, hs⟩ => ⟨fun c =>
    have rest : ∀ b : Ref sig .tc, (hb : b ∈ Pipeline.restRefs sig spec0) → b ≠ main_v5 → (∀ w, Pipeline.arrRef spec0 w ≠ b) → b ∉ R0 →
        r.2.mem ((c.tc : Thread nD τ).loc b) = V m c b := fun b hb h5 hw hR => ((h c).2 b hb).trans (final_keeps m c b h5 hw hR)
    ⟨((h c).2 main_v4 (by decide)).trans (final_v4 m c), ((h c).2 main_v5 (by decide)).trans (final_v5 m c),
      (rest main_arg0 (by decide) (by decide) (by decide) (by decide)).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      (rest main_arg3 (by decide) (by decide) (by decide) (by decide)).trans (V_main_arg3 m c),
      (rest main_arg4 (by decide) (by decide) (by decide) (by decide)).trans (V_main_arg4 m c),
      (rest main_arg5 (by decide) (by decide) (by decide) (by decide)).trans (V_main_arg5 m c),
      ((h c).1 2).trans (((dats m 0 c).arrAt_in 2 rfl _).trans ((A_eq m c 2).trans (V_main_arg6 m c))),
      (rest main_arg7 (by decide) (by decide) (by decide) (by decide)).trans (V_main_arg7 m c),
      ((h c).1 4).trans (((dats m 0 c).arrAt_in 4 rfl _).trans ((A_eq m c 4).trans (V_main_arg8 m c))),
      (rest main_arg9 (by decide) (by decide) (by decide) (by decide)).trans (V_main_arg9 m c),
      ((h c).1 6).trans (((dats m 0 c).arrAt_in 6 rfl _).trans ((A_eq m c 6).trans (V_main_arg10 m c))),
      (rest main_arg11 (by decide) (by decide) (by decide) (by decide)).trans (V_main_arg11 m c),
      ((h c).1 8).trans (((dats m 0 c).arrAt_in 8 rfl _).trans ((A_eq m c 8).trans (V_main_arg12 m c))),
      ((h c).1 9).trans (((dats m 0 c).arrAt_in 9 rfl _).trans ((A_eq m c 9).trans (V_main_arg13 m c))),
      (rest main_arg14 (by decide) (by decide) (by decide) (by decide)).trans (V_main_arg14 m c)⟩, hs⟩) (run_main m ρ)

/-- The kernel's frame, at any reading of the floats. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => (h.1 c).2.2, h.2⟩) (run m ρ)

end Cert.KernelIdeal.Hand

end
-- ==== Proof.Rows.lean ====
/- One combined row, written once over the reals: the embeddings, the three-part product, the gelu. Then the layout
   operations that both programs print, read at an index. -/
module

public import Idealize.ShloMosaic.Lib.MatmulPlain
public import Idealize.ShloMosaic.Lib.StackMember
public import Idealize.ShloMosaic.Lib.ValueLayout
public import Idealize.ShloMosaic.Lib.Pipeline.Value

@[expose] public section

set_option maxRecDepth 16384

noncomputable section

namespace Cert.Rows

open Idealize.ShloMosaic Idealize.ShloMosaic.ValueIdx
open scoped BigOperators

/-- The constants both programs spell as words. -/
abbrev lit (w : BitVec 32) : EReal := Ideal.ofBits .f32 w

/-- The gelu in its tanh form. -/
def gelu (v : EReal) : EReal :=
  v * (lit 0x3F000000#32 * (lit 0x3F800000#32 + Ideal.tanh (lit 0x3F4C422A#32 * (v + lit 0x3D372713#32 * (v * (v * v))))))

/-- A relu of an affine map. -/
def emb {n m : ℕ} (p : Fin n → EReal) (w : Fin n → Fin m → EReal) (b : Fin m → EReal) (l : Fin m) : EReal :=
  max ((∑ k, p k * w k l) + b l) (lit 0x00000000#32)

/-- A prong's feature embedding: its own features and its event's extra ones, each through its rows of the weight. -/
def embF (f : Fin 32 → EReal) (e : Fin 16 → EReal) (w : Fin 48 → Fin 64 → EReal) (b : Fin 64 → EReal) (l : Fin 64) : EReal :=
  max ((∑ k : Fin 32, f k * w ⟨k.val, by omega⟩ l) + ((∑ k : Fin 16, e k * w ⟨32 + k.val, by omega⟩ l) + b l)) (lit 0x00000000#32)

/-- What every combined row adds: the position row through the last rows of the weight, and the bias. -/
def shiftV (pos : Fin 32 → EReal) (w : Fin 160 → Fin 128 → EReal) (b : Fin 128 → EReal) (j : Fin 128) : EReal :=
  (∑ k : Fin 32, pos k * w ⟨128 + k.val, by omega⟩ j) + b j

def eventV (e : Fin 128 → EReal) (pos : Fin 32 → EReal) (w : Fin 160 → Fin 128 → EReal) (b : Fin 128 → EReal) (j : Fin 128) : EReal :=
  (∑ l : Fin 128, e l * w ⟨l.val, by omega⟩ j) + shiftV pos w b j

def prongV (f p : Fin 64 → EReal) (pos : Fin 32 → EReal) (w : Fin 160 → Fin 128 → EReal) (b : Fin 128 → EReal) (j : Fin 128) : EReal :=
  ((∑ l : Fin 64, f l * w ⟨l.val, by omega⟩ j) + (∑ l : Fin 64, p l * w ⟨64 + l.val, by omega⟩ j)) + shiftV pos w b j

/-! ## Products -/

variable {α : Type} {M K N : ℕ}

/-- The kernel's product from a zero accumulator. -/
theorem mm_at {φ₁ φ₂ : FTy} (a : FVec Ideal ⟨2, ![M, K]⟩ φ₁) (b : FVec Ideal ⟨2, ![K, N]⟩ φ₂) (i : Fin M) (j : Fin N) :
    matmul (DotDims.plain M K N) none a b (constant ⟨2, ![M, N]⟩ .f32 0x00000000#32) (ix2 i j) = ∑ k : Fin K, a (ix2 i k) * b (ix2 k j) := by
  refine (Ideal.matmul_plain_apply none a b _ i j).trans ?_
  show Ideal.ofBits .f32 0x00000000#32 + _ = _
  rw [Ideal.ofBits_zero_f32, zero_add]

/-- The reference's product. -/
theorem dot_at (a : FVec Ideal ⟨2, ![M, K]⟩ .f32) (b : FVec Ideal ⟨2, ![K, N]⟩ .f32) (i : Fin M) (j : Fin N) :
    Host.dotGeneral (DotDims.plain M K N) none a b (ix2 i j) = ∑ k : Fin K, a (ix2 i k) * b (ix2 k j) :=
  StackMember.dotGeneral_plain_apply none a b i j

/-! ## Layout -/

theorem slice_rows {R C r : ℕ} (o : ℕ) (x : (⟨2, ![R, C]⟩ : Shape).Idx → α) (h : (⟨2, ![R, C]⟩ : Shape).Slices ![o, 0] ⟨2, ![r, C]⟩)
    (i : Fin r) (j : Fin C) (q : Fin R) (hq : q.val = o + i.val) :
    extractStridedSlice ⟨2, ![r, C]⟩ ![o, 0] x h (ix2 i j) = x (ix2 q j) := by
  refine extractStridedSlice_apply _ x h _ _ fun a => ?_
  match a with
  | ⟨0, _⟩ => exact hq
  | ⟨1, _⟩ => exact (Nat.zero_add _).symm

theorem cast_same {s : Shape} (x : s.Idx → α) (h : s.ShapeCasts s) (i : s.Idx) : shapeCast s x h i = x i := shapeCast_apply x h _ _ rfl

/-- A leading axis of one dropped. -/
theorem cast_drop {r c : ℕ} (x : (⟨3, ![1, r, c]⟩ : Shape).Idx → α) (h : (⟨3, ![1, r, c]⟩ : Shape).ShapeCasts ⟨2, ![r, c]⟩) (i : Fin r) (j : Fin c) :
    shapeCast ⟨2, ![r, c]⟩ x h (ix2 i j) = x (ix3 0 i j) := by
  refine shapeCast_apply x h _ _ ?_
  rw [Shape.rowMajor_val_three, Shape.rowMajor_val_two]
  show (0 * r + i.val) * c + j.val = i.val * c + j.val
  rw [Nat.zero_mul, Nat.zero_add]

/-- A leading axis of one put on. -/
theorem cast_put {r c : ℕ} (x : (⟨2, ![r, c]⟩ : Shape).Idx → α) (h : (⟨2, ![r, c]⟩ : Shape).ShapeCasts ⟨3, ![1, r, c]⟩) (i : Fin r) (j : Fin c) :
    shapeCast ⟨3, ![1, r, c]⟩ x h (ix3 0 i j) = x (ix2 i j) := by
  refine shapeCast_apply x h _ _ ?_
  rw [Shape.rowMajor_val_three, Shape.rowMajor_val_two]
  show i.val * c + j.val = (0 * r + i.val) * c + j.val
  rw [Nat.zero_mul, Nat.zero_add]

/-- The first two axes folded into one, and the other way. -/
theorem cast_fold {a b c n : ℕ} (x : (⟨3, ![a, b, c]⟩ : Shape).Idx → α) (h : (⟨3, ![a, b, c]⟩ : Shape).ShapeCasts ⟨2, ![n, c]⟩)
    (i : Fin a) (j : Fin b) (l : Fin c) (p : Fin n) (hp : p.val = i.val * b + j.val) :
    shapeCast ⟨2, ![n, c]⟩ x h (ix2 p l) = x (ix3 i j l) := by
  refine shapeCast_apply x h _ _ ?_
  rw [Shape.rowMajor_val_three, Shape.rowMajor_val_two]
  show (i.val * b + j.val) * c + l.val = p.val * c + l.val
  rw [hp]
theorem cast_unfold {a b c n : ℕ} (x : (⟨2, ![n, c]⟩ : Shape).Idx → α) (h : (⟨2, ![n, c]⟩ : Shape).ShapeCasts ⟨3, ![a, b, c]⟩)
    (i : Fin a) (j : Fin b) (l : Fin c) (p : Fin n) (hp : p.val = i.val * b + j.val) :
    shapeCast ⟨3, ![a, b, c]⟩ x h (ix3 i j l) = x (ix2 p l) := by
  refine shapeCast_apply x h _ _ ?_
  rw [Shape.rowMajor_val_three, Shape.rowMajor_val_two]
  show p.val * c + l.val = (i.val * b + j.val) * c + l.val
  rw [hp]

/-- A vector as a row. -/
theorem cast_row {n : ℕ} (x : (⟨1, ![n]⟩ : Shape).Idx → α) (h : (⟨1, ![n]⟩ : Shape).ShapeCasts ⟨2, ![1, n]⟩) (j : Fin n) :
    shapeCast ⟨2, ![1, n]⟩ x h (ix2 0 j) = x (ix1 j) := by
  refine shapeCast_apply x h _ _ ?_
  rw [Shape.rowMajor_val_one, Shape.rowMajor_val_two]
  show j.val = 0 * n + j.val
  rw [Nat.zero_mul, Nat.zero_add]

/-- A piece of a concatenation of columns; of rows. -/
theorem cat_cols {a n b : ℕ} (xs : List ((s : Shape) × (s.Idx → α))) (h : Shape.Concatenates (xs.map (·.1)) ⟨2, ![a, n]⟩ 1) (k : ℕ) (hk : k < xs.length)
    (x : (⟨2, ![a, b]⟩ : Shape).Idx → α) (hx : xs[k] = ⟨⟨2, ![a, b]⟩, x⟩) (pre : ℕ)
    (hpre : (((xs.take k).map (·.1)).map fun s => if h : s.rank = 2 then s.size ((1 : Fin 2).cast h.symm) else 0).sum = pre)
    (i : Fin a) (q : Fin b) (j : Fin n) (hq : pre + q.val = j.val) : concatenate ⟨2, ![a, n]⟩ 1 xs h (ix2 i j) = x (ix2 i q) := by
  refine concatenate_apply_piece (t := ⟨2, ![a, n]⟩) 1 xs h (ix2 i j) k hk _ x hx rfl pre hpre (ix2 i q) (fun c hc => ?_) hq
  match c with
  | ⟨0, _⟩ => rfl
  | ⟨1, _⟩ => exact absurd rfl hc
theorem cat_rows {a n b : ℕ} (xs : List ((s : Shape) × (s.Idx → α))) (h : Shape.Concatenates (xs.map (·.1)) ⟨2, ![n, a]⟩ 0) (k : ℕ) (hk : k < xs.length)
    (x : (⟨2, ![b, a]⟩ : Shape).Idx → α) (hx : xs[k] = ⟨⟨2, ![b, a]⟩, x⟩) (pre : ℕ)
    (hpre : (((xs.take k).map (·.1)).map fun s => if h : s.rank = 2 then s.size ((0 : Fin 2).cast h.symm) else 0).sum = pre)
    (q : Fin b) (i : Fin a) (j : Fin n) (hq : pre + q.val = j.val) : concatenate ⟨2, ![n, a]⟩ 0 xs h (ix2 j i) = x (ix2 q i) := by
  refine concatenate_apply_piece (t := ⟨2, ![n, a]⟩) 0 xs h (ix2 j i) k hk _ x hx rfl pre hpre (ix2 q i) (fun c hc => ?_) hq
  match c with
  | ⟨0, _⟩ => exact absurd rfl hc
  | ⟨1, _⟩ => rfl
/-- Of the middle axis of three. -/
theorem cat_mid {g a n b : ℕ} (xs : List ((s : Shape) × (s.Idx → α))) (h : Shape.Concatenates (xs.map (·.1)) ⟨3, ![g, n, a]⟩ 1) (k : ℕ) (hk : k < xs.length)
    (x : (⟨3, ![g, b, a]⟩ : Shape).Idx → α) (hx : xs[k] = ⟨⟨3, ![g, b, a]⟩, x⟩) (pre : ℕ)
    (hpre : (((xs.take k).map (·.1)).map fun s => if h : s.rank = 3 then s.size ((1 : Fin 3).cast h.symm) else 0).sum = pre)
    (e : Fin g) (q : Fin b) (i : Fin a) (j : Fin n) (hq : pre + q.val = j.val) : concatenate ⟨3, ![g, n, a]⟩ 1 xs h (ix3 e j i) = x (ix3 e q i) := by
  refine concatenate_apply_piece (t := ⟨3, ![g, n, a]⟩) 1 xs h (ix3 e j i) k hk _ x hx rfl pre hpre (ix3 e q i) (fun c hc => ?_) hq
  match c with
  | ⟨0, _⟩ => rfl
  | ⟨1, _⟩ => exact absurd rfl hc
  | ⟨2, _⟩ => rfl

/-! ## A product over joined columns is the sum of the products -/

theorem sum_two (f : Fin 160 → EReal) :
    ∑ k, f k = (∑ l : Fin 128, f ⟨l.val, by omega⟩) + ∑ k : Fin 32, f ⟨128 + k.val, by omega⟩ := Fin.sum_univ_add (a := 128) (b := 32) f

theorem sum_feat (f : Fin 48 → EReal) :
    ∑ k, f k = (∑ l : Fin 32, f ⟨l.val, by omega⟩) + ∑ k : Fin 16, f ⟨32 + k.val, by omega⟩ := Fin.sum_univ_add (a := 32) (b := 16) f

theorem sum_three (f : Fin 160 → EReal) :
    ∑ k, f k = ((∑ l : Fin 64, f ⟨l.val, by omega⟩) + ∑ l : Fin 64, f ⟨64 + l.val, by omega⟩) + ∑ k : Fin 32, f ⟨128 + k.val, by omega⟩ := by
  rw [sum_two]
  exact congrArg (· + _) (Fin.sum_univ_add (a := 64) (b := 64) fun l : Fin 128 => f ⟨l.val, by omega⟩)

end Cert.Rows

end
-- ==== Proof.SlabValue.lean ====
/- The kernel's slab over the reals, read at an index: each row is the combined row of `Rows`. -/
module

public import proofs.«01_k».proof.Proof.Block
public import proofs.«01_k».proof.Proof.Rows

@[expose] public section

set_option maxRecDepth 16384

noncomputable section

namespace Cert.KernelIdeal.Hand

open Cert.KernelIdeal Cert.KernelIdeal.Gen Cert.Rows
open Idealize.ShloMosaic Idealize.ShloMosaic.TcCoe Idealize.ShloMosaic.ValueIdx
open scoped BigOperators

variable (x : Small Ideal)

/-- The small operands by their indices. -/
abbrev posF (k : Fin 32) : EReal := x.pos (ix2 0 k)
abbrev wCombF (k : Fin 160) (j : Fin 128) : EReal := x.wComb (ix2 k j)
abbrev bCombF (j : Fin 128) : EReal := x.bComb (ix2 0 j)

theorem shift_at (j : Fin 128) : shift x (ix2 0 j) = shiftV (posF x) (wCombF x) (bCombF x) j := by
  refine congrArg₂ (fun a b : EReal => a + b) ((mm_at _ _ 0 j).trans (Finset.sum_congr rfl fun k _ => ?_)) (cast_same _ _ _)
  exact congrArg (fun a : EReal => x.pos (ix2 0 k) * a) (slice_rows 128 _ _ k j ⟨128 + k.val, by omega⟩ rfl)

/-- The event rows. -/
theorem eventPre_at (b : Fin 16) (j : Fin 128) : eventPre x (ix2 b j)
    = eventV (emb (fun k => x.eventPix (ix2 b k)) (fun k l => x.wEvent (ix2 k l)) (fun l => x.bEvent (ix2 0 l))) (posF x) (wCombF x) (bCombF x) j := by
  refine congrArg₂ (fun a b : EReal => a + b) ((mm_at _ _ b j).trans (Finset.sum_congr rfl fun k _ => ?_))
    ((broadcastTo_1b_ab_apply _ _ b j).trans (shift_at x j))
  refine congrArg₂ (fun a b : EReal => a * b) ?_ (slice_rows 0 _ _ k j ⟨k.val, by omega⟩ (Nat.zero_add _).symm)
  refine congrArg (fun a : EReal => max a (lit 0x00000000#32)) ?_
  exact congrArg₂ (fun a b : EReal => a + b) (mm_at _ _ b k) ((broadcastTo_1b_ab_apply _ _ b k).trans (cast_same _ _ _))

/-- The gelu of a vector reads pointwise. -/
theorem geluV_at {S : Shape} (v : FVec Ideal S .f32) (i : S.Idx) : geluV v i = gelu (v i) := rfl

theorem extraRows_at (b : Fin 16) (l : Fin 64) : extraRows x (ix2 b l)
    = (∑ k : Fin 16, x.extra (ix2 b k) * x.wFeat (ix2 ⟨32 + k.val, by omega⟩ l)) + x.bFeat (ix2 0 l) := by
  refine congrArg₂ (fun a b : EReal => a + b) ((mm_at _ _ b l).trans (Finset.sum_congr rfl fun k _ => ?_))
    ((broadcastTo_1b_ab_apply _ _ b l).trans (cast_same _ _ _))
  exact congrArg (fun a : EReal => x.extra (ix2 b k) * a) (slice_rows 32 _ _ k l ⟨32 + k.val, by omega⟩ rfl)

variable (pix : Vec Ideal S1x1024x256 .f32) (feat : Vec Ideal S1x1024x32 .f32)

theorem pixEmb_at (r : Fin 1024) (l : Fin 64) : pixEmb x pix (ix2 r l)
    = emb (fun k => pix (ix3 0 r k)) (fun k l => x.wPix (ix2 k l)) (fun l => x.bPix (ix2 0 l)) l := by
  refine congrArg (fun a : EReal => max a (lit 0x00000000#32)) ?_
  refine congrArg₂ (fun a b : EReal => a + b) ((mm_at _ _ r l).trans (Finset.sum_congr rfl fun k _ => ?_))
    ((broadcastTo_1b_ab_apply _ _ r l).trans (cast_same _ _ _))
  exact congrArg (fun a : EReal => a * x.wPix (ix2 k l)) (cast_drop _ _ r k)

theorem featEmb_at (b : Fin 16) (r : Fin 1024) (l : Fin 64) : featEmb x b.val feat (ix2 r l)
    = embF (fun k => feat (ix3 0 r k)) (fun k => x.extra (ix2 b k)) (fun k l => x.wFeat (ix2 k l)) (fun l => x.bFeat (ix2 0 l)) l := by
  refine congrArg (fun a : EReal => max a (lit 0x00000000#32)) ?_
  refine congrArg₂ (fun a b : EReal => a + b) ((mm_at _ _ r l).trans (Finset.sum_congr rfl fun k _ => ?_))
    ((broadcastTo_1b_ab_apply _ _ r l).trans ((slice_rows (b.val % 16) _ _ 0 l b ?_).trans (extraRows_at x b l)))
  · exact congrArg₂ (fun a b : EReal => a * b) (cast_drop _ _ r k) (slice_rows 0 _ _ k l ⟨k.val, by omega⟩ (Nat.zero_add _).symm)
  · show b.val = b.val % 16 + 0
    omega

/-- The prong rows. -/
theorem prongPre_at (b : Fin 16) (r : Fin 1024) (j : Fin 128) : prongPre x b.val pix feat (ix2 r j)
    = prongV (embF (fun k => feat (ix3 0 r k)) (fun k => x.extra (ix2 b k)) (fun k l => x.wFeat (ix2 k l)) (fun l => x.bFeat (ix2 0 l)))
        (emb (fun k => pix (ix3 0 r k)) (fun k l => x.wPix (ix2 k l)) (fun l => x.bPix (ix2 0 l))) (posF x) (wCombF x) (bCombF x) j := by
  refine congrArg₂ (fun a b : EReal => a + b) (congrArg₂ (fun a b : EReal => a + b)
    ((mm_at _ _ r j).trans (Finset.sum_congr rfl fun k _ => ?_)) ((mm_at _ _ r j).trans (Finset.sum_congr rfl fun k _ => ?_)))
    ((broadcastTo_1b_ab_apply _ _ r j).trans (shift_at x j))
  · exact congrArg₂ (fun a b : EReal => a * b) (featEmb_at x feat b r k) (slice_rows 0 _ _ k j ⟨k.val, by omega⟩ (Nat.zero_add _).symm)
  · exact congrArg₂ (fun a b : EReal => a * b) (pixEmb_at x pix r k) (slice_rows 64 _ _ k j ⟨64 + k.val, by omega⟩ rfl)

/-- A slab's first row is its event's; the others are its prongs'. -/
theorem slab_event (b : Fin 16) (j : Fin 128) : slab x b.val pix feat (ix3 0 0 j)
    = gelu (eventV (emb (fun k => x.eventPix (ix2 b k)) (fun k l => x.wEvent (ix2 k l)) (fun l => x.bEvent (ix2 0 l))) (posF x) (wCombF x) (bCombF x) j) := by
  refine (cast_put _ _ 0 j).trans ?_
  refine (cat_rows _ _ 0 (by exact Nat.zero_lt_succ _) _ rfl 0 rfl 0 j 0 rfl).trans ?_
  refine (slice_rows (b.val % 16) _ _ 0 j b (by show b.val = b.val % 16 + 0; omega)).trans ?_
  exact (geluV_at _ _).trans (congrArg gelu (eventPre_at x b j))

theorem slab_prong (b : Fin 16) (r : Fin 1024) (i : Fin 1025) (hi : i.val = 1 + r.val) (j : Fin 128) : slab x b.val pix feat (ix3 0 i j)
    = gelu (prongV (embF (fun k => feat (ix3 0 r k)) (fun k => x.extra (ix2 b k)) (fun k l => x.wFeat (ix2 k l)) (fun l => x.bFeat (ix2 0 l)))
        (emb (fun k => pix (ix3 0 r k)) (fun k l => x.wPix (ix2 k l)) (fun l => x.bPix (ix2 0 l))) (posF x) (wCombF x) (bCombF x) j) := by
  refine (cast_put _ _ i j).trans ?_
  refine (cat_rows _ _ 1 (by exact Nat.lt_succ_self _) _ rfl 1 rfl r j i hi.symm).trans ?_
  exact (geluV_at _ _).trans (congrArg gelu (prongPre_at x pix feat b r j))

end Cert.KernelIdeal.Hand

end
-- ==== Proof.Small.lean ====
/- The eleven small operands, as launched: each window is its whole array, four of them a vector read as a row. -/
module

public import proofs.«01_k».proof.Proof.Run
public import proofs.«01_k».proof.Proof.SlabValue

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] (m : (ℓ : Loc nD τ sig) → Buf (Elt F) ℓ) (c : Dev nD)

/-- The four vectors read as rows. -/
theorem V_v0 (j : Fin 64) : V m c main_v0 (ix2 0 j) = m ((c : Thread nD τ).loc main_arg7) (ix1 j) :=
  Eq.trans (b := shapeCast S1x64 (m ((c : Thread nD τ).loc main_arg7)) shapeCasts_S64_S1x64 (ix2 0 j)) rfl (Cert.Rows.cast_row _ _ j)
theorem V_v1 (j : Fin 64) : V m c main_v1 (ix2 0 j) = m ((c : Thread nD τ).loc main_arg9) (ix1 j) :=
  Eq.trans (b := shapeCast S1x64 (m ((c : Thread nD τ).loc main_arg9)) shapeCasts_S64_S1x64 (ix2 0 j)) rfl (Cert.Rows.cast_row _ _ j)
theorem V_v2 (j : Fin 128) : V m c main_v2 (ix2 0 j) = m ((c : Thread nD τ).loc main_arg11) (ix1 j) :=
  Eq.trans (b := shapeCast S1x128 (m ((c : Thread nD τ).loc main_arg11)) shapeCasts_S128_S1x128 (ix2 0 j)) rfl (Cert.Rows.cast_row _ _ j)
theorem V_v3 (j : Fin 128) : V m c main_v3 (ix2 0 j) = m ((c : Thread nD τ).loc main_arg14) (ix1 j) :=
  Eq.trans (b := shapeCast S1x128 (m ((c : Thread nD τ).loc main_arg14)) shapeCasts_S128_S1x128 (ix2 0 j)) rfl (Cert.Rows.cast_row _ _ j)

/-- An index of a whole window is the same index of its array. -/
theorem whole_ix {R C : ℕ} {e : (⟨2, ![R, C]⟩ : Shape).Idx} (i : Fin R) (j : Fin C) (h0 : (e 0).val = 0 + 1 * i.val) (h1 : (e 1).val = 0 + 1 * j.val) :
    e = ix2 i j := by
  funext a
  apply Fin.ext
  match a with
  | ⟨0, _⟩ => exact h0.trans (by rw [Nat.one_mul, Nat.zero_add])
  | ⟨1, _⟩ => exact h1.trans (by rw [Nat.one_mul, Nat.zero_add])

/-! ## Each operand -/

theorem small_extra (i : Fin 16) (j : Fin 16) : (smallOf m c).extra (ix2 i j) = m ((c : Thread nD τ).loc main_arg1) (ix2 i j) :=
  (congrArg (V m c main_arg1) (whole_ix i j rfl rfl)).trans (congrFun (V_main_arg1 m c) _)
theorem small_eventPix (i : Fin 16) (j : Fin 256) : (smallOf m c).eventPix (ix2 i j) = m ((c : Thread nD τ).loc main_arg2) (ix2 i j) :=
  (congrArg (V m c main_arg2) (whole_ix i j rfl rfl)).trans (congrFun (V_main_arg2 m c) _)
theorem small_wFeat (i : Fin 48) (j : Fin 64) : (smallOf m c).wFeat (ix2 i j) = m ((c : Thread nD τ).loc main_arg6) (ix2 i j) :=
  (congrArg (V m c main_arg6) (whole_ix i j rfl rfl)).trans (congrFun (V_main_arg6 m c) _)
theorem small_bFeat (j : Fin 64) : (smallOf m c).bFeat (ix2 0 j) = m ((c : Thread nD τ).loc main_arg7) (ix1 j) :=
  (congrArg (V m c main_v0) (whole_ix 0 j rfl rfl)).trans (V_v0 m c j)
theorem small_wPix (i : Fin 256) (j : Fin 64) : (smallOf m c).wPix (ix2 i j) = m ((c : Thread nD τ).loc main_arg8) (ix2 i j) :=
  (congrArg (V m c main_arg8) (whole_ix i j rfl rfl)).trans (congrFun (V_main_arg8 m c) _)
theorem small_bPix (j : Fin 64) : (smallOf m c).bPix (ix2 0 j) = m ((c : Thread nD τ).loc main_arg9) (ix1 j) :=
  (congrArg (V m c main_v1) (whole_ix 0 j rfl rfl)).trans (V_v1 m c j)
theorem small_wEvent (i : Fin 256) (j : Fin 128) : (smallOf m c).wEvent (ix2 i j) = m ((c : Thread nD τ).loc main_arg10) (ix2 i j) :=
  (congrArg (V m c main_arg10) (whole_ix i j rfl rfl)).trans (congrFun (V_main_arg10 m c) _)
theorem small_bEvent (j : Fin 128) : (smallOf m c).bEvent (ix2 0 j) = m ((c : Thread nD τ).loc main_arg11) (ix1 j) :=
  (congrArg (V m c main_v2) (whole_ix 0 j rfl rfl)).trans (V_v2 m c j)
theorem small_pos (i : Fin 1) (j : Fin 32) : (smallOf m c).pos (ix2 i j) = m ((c : Thread nD τ).loc main_arg12) (ix2 i j) :=
  (congrArg (V m c main_arg12) (whole_ix i j rfl rfl)).trans (congrFun (V_main_arg12 m c) _)
theorem small_wComb (i : Fin 160) (j : Fin 128) : (smallOf m c).wComb (ix2 i j) = m ((c : Thread nD τ).loc main_arg13) (ix2 i j) :=
  (congrArg (V m c main_arg13) (whole_ix i j rfl rfl)).trans (congrFun (V_main_arg13 m c) _)
theorem small_bComb (j : Fin 128) : (smallOf m c).bComb (ix2 0 j) = m ((c : Thread nD τ).loc main_arg14) (ix1 j) :=
  (congrArg (V m c main_v3) (whole_ix 0 j rfl rfl)).trans (V_v3 m c j)

end Cert.KernelIdeal.Hand

end
-- ==== Proof.Lands.lean ====
/- Where the reference's two scatters put their updates: counts into a vector, and rows into a matrix. -/
module

public import proofs.«01_k».proof.Proof.Gen.ReferenceIdeal
public import Idealize.ShloMosaic.Lib.Routing.Ops
public import Idealize.ShloMosaic.Lib.Routing.OpsPair
public import Idealize.ShloMosaic.Lib.Routing.OpsSet
public import Idealize.ShloMosaic.Lib.Routing.Words

@[expose] public section

set_option maxRecDepth 16384

noncomputable section

namespace Cert.ReferenceIdeal.Hand

open Cert.ReferenceIdeal Cert.ReferenceIdeal.Gen
open Idealize.ShloMosaic Idealize.ShloMosaic.Routing Idealize.ShloMosaic.ValueIdx

/-- The scatter that counts, and the one that places rows. -/
abbrev countDims := scatter_S16384_S32768x1_S32768_n_0_0_1
abbrev rowDims := scatter_S32768x128_S16384x1_S16384x128_1_0_0_1

theorem countDims_start (idx : IVec S32768x1 32) (i : Fin 32768) :
    countDims.start (ix1 i) idx 0 = (idx (ix2 i (0 : Fin 1))).toInt := by
  refine congrArg (fun k => (idx k).toInt) (funext fun b => ?_)
  match b with
  | ⟨0, _⟩ => rfl
  | ⟨1, _⟩ => rfl

/-- An update of the count lands at the entry its index word names. -/
theorem countDims_lands (idx : IVec S32768x1 32) (i : Fin 32768) (x : Fin 16384) :
    countDims.resultIdx? (ix1 i) idx = some (ix1 x) ↔ (idx (ix2 i (0 : Fin 1))).toInt = (x.val : Int) := by
  rw [resultIdx?_ix1, countDims_start, show countDims.window (ix1 i) 0 = 0 from rfl]
  omega

/-- The count itself: an entry holds the number of index words that name it. -/
theorem scatter_counts (x0 : IVec S16384 32) (hx0 : ∀ i, x0 i = 0#32) (idx : IVec S32768x1 32) (upd : IVec S32768 32)
    (hupd : ∀ i, upd i = 1#32) (g : Nat → Nat) (hg : ∀ i : Fin 32768, idx (ix2 i (0 : Fin 1)) = BitVec.ofNat 32 (g i.val))
    (hg31 : ∀ i : Fin 32768, g i.val < 2 ^ 31) (x : Fin 16384) :
    Host.scatter countDims IntOp.addi x0 idx upd (ix1 x) = BitVec.ofNat 32 (Nat.count (fun i => g i = x.val) 32768) := by
  have hN : (S32768).numel = 32768 := numel1 32768
  rw [scatter_at]
  have key : ∀ (l : List (Fin S32768.numel)) (a : BitVec 32) (z : Nat), a = BitVec.ofNat 32 z →
      l.foldl (fun a n => if countDims.resultIdx? (S32768.rowMajor.symm n) idx = some (ix1 x)
          then IntOp.addi a (upd (S32768.rowMajor.symm n)) else a) a
        = BitVec.ofNat 32 (z + l.countP fun n => decide (g n.val = x.val)) := by
    intro l
    induction l with
    | nil => intro a z h; exact h
    | cons n l ih =>
      intro a z h
      have hl := countDims_lands idx (n.cast hN) x
      rw [hg, StableHlo.Predicate.toInt_ofNat_small _ (hg31 _)] at hl
      have hp : S32768.rowMajor.symm n = ix1 (n.cast hN) := symm1 n
      rw [List.foldl_cons, List.countP_cons, hp, hupd]
      by_cases e : g n.val = x.val
      · rw [if_pos (hl.2 (by exact_mod_cast e)), ih _ (z + 1) (by rw [h]; exact (BitVec.ofNat_add ..).symm),
          if_pos (decide_eq_true e)]
        congr 1; omega
      · rw [if_neg fun q => e (by exact_mod_cast hl.1 q), ih _ z h, if_neg fun q => e (of_decide_eq_true q)]
        rfl
  rw [key _ _ 0 (hx0 _), Nat.zero_add, countP_finRange _ (fun i => g i = x.val), hN]

theorem rowDims_start (idx : IVec S16384x1 32) (u : Fin 16384) (c : Fin 128) :
    rowDims.start (ix2 u c) idx 0 = (idx (ix2 u (0 : Fin 1))).toInt := by
  refine congrArg (fun k => (idx k).toInt) (funext fun b => ?_)
  match b with
  | ⟨0, _⟩ => rfl
  | ⟨1, _⟩ => rfl

/-- An element of an updating row lands in its own column of the row its index word names. -/
theorem rowDims_lands (idx : IVec S16384x1 32) (u : Fin 16384) (c : Fin 128) (r : Fin 32768) (j : Fin 128) :
    rowDims.resultIdx? (ix2 u c) idx = some (ix2 r j) ↔ (idx (ix2 u (0 : Fin 1))).toInt = (r.val : Int) ∧ c = j := by
  rw [resultIdx?_ix2, rowDims_start, show rowDims.window (ix2 u c) 0 = 0 from rfl,
    show rowDims.start (ix2 u c) idx 1 = 0 from rfl, show rowDims.window (ix2 u c) 1 = c.val from rfl, Fin.ext_iff]
  omega

/-- Rows placed at distinct positions `g`: a row that is named holds the update that names it. -/
theorem scatter_rows_hit {α : Type} (x0 : S32768x128.Idx → α) (idx : IVec S16384x1 32) (upd : S16384x128.Idx → α) (g : Nat → Nat)
    (hg : ∀ i : Fin 16384, idx (ix2 i (0 : Fin 1)) = BitVec.ofNat 32 (g i.val)) (hg31 : ∀ i : Fin 16384, g i.val < 2 ^ 31)
    (inj : ∀ i k : Fin 16384, g i.val = g k.val → i = k) (u : Fin 16384) (r : Fin 32768) (hr : g u.val = r.val) (j : Fin 128) :
    Host.scatter rowDims (fun _ b => b) x0 idx upd (ix2 r j) = upd (ix2 u j) := by
  refine scatter_set_hit rowDims x0 idx upd _ _ (fun k hk => ?_) (ix2 u j) ?_
  · obtain ⟨u', c, rfl⟩ : ∃ u' c, k = ix2 u' c := ⟨k 0, k 1, eq_ix2 k⟩
    rw [rowDims_lands, hg, StableHlo.Predicate.toInt_ofNat_small _ (hg31 _)] at hk
    obtain ⟨h1, rfl⟩ := hk
    rw [inj u' u (by omega)]
  · rw [rowDims_lands, hg, StableHlo.Predicate.toInt_ofNat_small _ (hg31 _)]
    exact ⟨by omega, rfl⟩

/-- And a row that no index word names keeps what it held. -/
theorem scatter_rows_miss {α : Type} (x0 : S32768x128.Idx → α) (idx : IVec S16384x1 32) (upd : S16384x128.Idx → α) (g : Nat → Nat)
    (hg : ∀ i : Fin 16384, idx (ix2 i (0 : Fin 1)) = BitVec.ofNat 32 (g i.val)) (hg31 : ∀ i : Fin 16384, g i.val < 2 ^ 31)
    (r : Fin 32768) (hr : ∀ u : Fin 16384, g u.val ≠ r.val) (j : Fin 128) :
    Host.scatter rowDims (fun _ b => b) x0 idx upd (ix2 r j) = x0 (ix2 r j) := by
  refine scatter_set_miss rowDims x0 idx upd _ fun k hk => ?_
  obtain ⟨u', c, rfl⟩ : ∃ u' c, k = ix2 u' c := ⟨k 0, k 1, eq_ix2 k⟩
  rw [rowDims_lands, hg, StableHlo.Predicate.toInt_ofNat_small _ (hg31 _)] at hk
  exact hr u' (by omega)

end Cert.ReferenceIdeal.Hand

end
-- ==== Proof.Nonzero.lean ====
/- The positions the reference takes its rows from: where the mask holds the first half of every line, the `x`-th
   marked position is `x % 1024` of line `x / 1024`. -/
module

public import proofs.«01_k».proof.Proof.Gen.ReferenceIdeal.Run
public import proofs.«01_k».proof.Proof.Lands
public import Idealize.ShloMosaic.Lib.Routing.Count
public import Idealize.ShloMosaic.Lib.Routing.Line
public import Idealize.ShloMosaic.Lib.Routing.Resident

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Idealize.ShloMosaic.Routing Idealize.ShloMosaic.ValueIdx Idealize.ShloMosaic.WordCmp

/-! ## The counts -/

/-- Position `q` of the flattened mask is marked. -/
def Marked (q : Nat) : Prop := q % 2048 < 1024

instance : DecidablePred Marked := fun q => inferInstanceAs (Decidable (q % 2048 < 1024))

/-- The flat position of the `x`-th marked entry. -/
def pos (x : Nat) : Nat := x / 1024 * 2048 + x % 1024

theorem pos_lt {x : Nat} (h : x < 16384) : pos x < 32768 := by unfold pos; omega

theorem pos_inj {x y : Nat} (h : pos x = pos y) : x = y := by unfold pos at h; omega

theorem pos_div (x : Nat) : pos x / 2048 = x / 1024 := by unfold pos; omega

theorem count_marked (n : Nat) : Nat.count Marked n = n / 2048 * 1024 + min (n % 2048) 1024 := by
  induction n with
  | zero => rfl
  | succ n ih =>
    rw [Nat.count_succ, ih]
    by_cases h : Marked n
    · rw [if_pos h]; unfold Marked at h; omega
    · rw [if_neg h]; unfold Marked at h; omega

theorem count_lt (k n : Nat) : Nat.count (fun i => i < k) n = min k n := by
  induction n with
  | zero => simp
  | succ n ih =>
    rw [Nat.count_succ, ih]
    by_cases h : n < k
    · rw [if_pos h]; omega
    · rw [if_neg h]; omega

/-- As many prefixes hold at most `x` marked entries as there are positions before the `x`-th one. -/
theorem count_before {x : Nat} (hx : x < 16384) : Nat.count (fun i => Nat.count Marked (i + 1) ≤ x) 32768 = pos x := by
  rw [count_congr_of_lt (Q := fun i => i < pos x) 32768 fun i _ => by rw [count_marked]; unfold pos; omega, count_lt]
  have := pos_lt hx
  omega

/-! ## The words -/

section Words

variable {F : FTy → Type} [FloatOps F]
variable (V0 : Valuation τ sig (Elt F))
variable (hm : ∀ (i : Fin 16) (j : Fin 2048), (V0 (Proc.devRef .tc main_arg5) : IVec S16x2048 1) (ix2 i j) = BitVec.ofBool (decide (j.val < 1024)))

include hm

theorem v7_at (p : Fin 32768) : (res_main_v7 V0 : IVec S32768 1) (ix1 p) = BitVec.ofBool (decide (Marked p.val)) := by
  have hp := p.isLt
  unfold res_main_v7
  refine (cast21 _ _ (⟨p.val / 2048, by omega⟩ : Fin 16) (⟨p.val % 2048, by omega⟩ : Fin 2048) p ?_).trans (hm _ _)
  show p.val = p.val / 2048 * 2048 + p.val % 2048
  omega

theorem bits_at (p : Fin 32768) : extui 32 (res_main_v7 V0 : IVec S32768 1) natLt_1_32 (ix1 p) = BitVec.ofNat 32 (if Marked p.val then 1 else 0) := by
  rw [extui_at, v7_at V0 hm, setWidth_ofBool]

theorem v8_at (p : Fin 32768) : (res_main_v8 V0 : IVec S32768 32) (ix1 p) = BitVec.ofNat 32 (Nat.count Marked (p.val + 1)) := by
  unfold res_main_v8
  refine (cumsum1 (N := 32768) (Nm1 := 32767) rfl _ (fun q => if Marked q then 1 else 0) (bits_at V0 hm) _ (by rw [bc0]; rfl) _ _ p).trans ?_
  rw [sum_map_ite]

theorem v8_wrap_at (p : Fin 32768) :
    select (cmpi .slt (res_main_v8 V0 : IVec S32768 32) (broadcastInDim S32768 ![] bcast_S_S32768 (constantI S_ 32 0#32)))
      (addi (res_main_v8 V0 : IVec S32768 32) (broadcastInDim S32768 ![] bcast_S_S32768 (constantI S_ 32 16384#32))) (res_main_v8 V0 : IVec S32768 32) (ix1 p)
      = BitVec.ofNat 32 (Nat.count Marked (p.val + 1)) := by
  have h := Nat.count_le (p := Marked) (n := p.val + 1)
  have hp := p.isLt
  rw [select_at, cmpi_at, bc0, constantI_at, v8_at V0 hm, wrap_of_lt]
  rw [BitVec.toNat_ofNat]
  exact Nat.lt_of_le_of_lt (Nat.mod_le _ _) (by omega)

theorem v18_at (x : Fin 16384) : (res_main_v18 V0 : IVec S16384 32) (ix1 x) = BitVec.ofNat 32 (pos x.val) := by
  unfold res_main_v18
  refine (cumsum1 (N := 16384) (Nm1 := 16383) rfl _ (fun y => Nat.count (fun i => Nat.count Marked (i + 1) = y) 32768) (fun i => ?_) _ (by rw [bc0]; rfl) _ _ x).trans ?_
  · refine scatter_counts _ (fun i => by rw [bc0]; rfl) _ _ (fun i => by rw [bc0]; rfl) (fun i => Nat.count Marked (i + 1)) (fun i => ?_) (fun i => ?_) i
    · exact (bcCol _ _ i).trans (v8_wrap_at V0 hm i)
    · have h := Nat.count_le (p := Marked) (n := i.val + 1)
      have := i.isLt
      show Nat.count Marked (i.val + 1) < 2 ^ 31
      omega
  · rw [sum_count_eq (fun i => Nat.count Marked (i + 1)), count_before x.isLt]

omit hm in
/-- A scalar spread over a vector by way of one entry is the scalar everywhere. -/
theorem spread_at (v : IVec S_ 32) (k : S16384.Idx) :
    broadcastInDim S16384 ![0] bcast_S1_S16384_0 (broadcastInDim S1 ![] bcast_S_S1 v) k = v ix0 := by
  unfold broadcastInDim
  exact congrArg v (funext fun a => a.elim0)

theorem v28_at (x : Fin 16384) : (res_main_v28 V0 : IVec S16384 32) (ix1 x) = BitVec.ofNat 32 (pos x.val) := by
  have hx := x.isLt
  have hp := pos_lt hx
  have hdiv : pyDiv bcast_S_S16384 (res_main_v18 V0 : IVec S16384 32) (id (constantI S_ 32 1#32)) (ix1 x) = BitVec.ofNat 32 (pos x.val / 1) :=
    pyDiv_ap bcast_S_S16384 _ _ (ix1 x) (v18_at V0 hm x) rfl (by omega) (by decide) (by decide)
  have hrem := pyRem_ap bcast_S_S16384 (pyDiv bcast_S_S16384 (res_main_v18 V0 : IVec S16384 32) (id (constantI S_ 32 1#32)))
    (id (constantI S_ 32 32768#32)) (ix1 x) hdiv (b := 32768) rfl (by omega) (by decide) (by decide)
  have hsum : Host.reduce IntOp.addi (extui 32 (res_main_v7 V0 : IVec S32768 1) natLt_1_32) (constantI S_ 32 0#32) reducesTo_S32768_S_d0 h_S_ ix0
      = BitVec.ofNat 32 16384 := by
    refine (reduce_sum _ (fun q => if Marked q then 1 else 0) (bits_at V0 hm) _ _).trans ?_
    rw [sum_map_ite, count_marked]
    rfl
  have e : (res_main_v28 V0 : IVec S16384 32) (ix1 x)
      = Scalar.select (IntOp.cmpi .sge (iotaInDim S16384 32 0 (ix1 x))
          (Host.reduce IntOp.addi (extui 32 (res_main_v7 V0 : IVec S32768 1) natLt_1_32) (constantI S_ 32 0#32) reducesTo_S32768_S_d0 h_S_ ix0)) 0#32
          (pyRem bcast_S_S16384 (pyDiv bcast_S_S16384 (res_main_v18 V0 : IVec S16384 32) (id (constantI S_ 32 1#32))) (id (constantI S_ 32 32768#32)) (ix1 x)) := by
    unfold res_main_v28
    refine congr (congr (congrArg _ (congrArg _ (spread_at _ _))) (spread_at _ _)) ?_
    rfl
  rw [e, hsum, hrem]
  have hc : IntOp.cmpi .sge (iotaInDim S16384 32 0 (ix1 x)) (BitVec.ofNat 32 16384) = 0#1 := by
    rw [iota1_ap, cmpi_sge_of_lt (by rw [BitVec.toNat_ofNat]; omega) (by decide), BitVec.toNat_ofNat, BitVec.toNat_ofNat,
      decide_eq_false (by omega)]
    rfl
  rw [hc]
  have hmod : pos x.val / 1 % 32768 = pos x.val := by rw [Nat.div_one, Nat.mod_eq_of_lt hp]
  rw [hmod]
  generalize BitVec.ofNat 32 (pos x.val) = y
  exact if_neg (by decide)

theorem v29_at (x : Fin 16384) : (res_main_v29 V0 : IVec S16384 32) (ix1 x) = BitVec.ofNat 32 (x.val / 1024) := by
  have hp := pos_lt x.isLt
  rw [← pos_div]
  exact pyDiv_ap bcast_S_S16384 _ _ (ix1 x) (v28_at V0 hm x) (b := 2048) rfl (by omega) (by decide) (by decide)

end Words

end Cert.ReferenceIdeal.Hand

end
-- ==== Proof.RefRows.lean ====
/- The reference's combined rows over the reals, read at an index: each is the combined row of `Rows`. -/
module

public import proofs.«01_k».proof.Proof.Nonzero
public import proofs.«01_k».proof.Proof.Rows

@[expose] public section

set_option maxRecDepth 16384

noncomputable section

namespace Cert.ReferenceIdeal.Hand

open Cert.ReferenceIdeal Cert.ReferenceIdeal.Gen Cert.ReferenceIdeal.Value Cert.Rows
open Idealize.ShloMosaic Idealize.ShloMosaic.TcCoe Idealize.ShloMosaic.StableHlo
open Idealize.ShloMosaic.Routing Idealize.ShloMosaic.ValueIdx Idealize.ShloMosaic.WordCmp
open scoped BigOperators

/-- A row put under every index, by way of one row. -/
theorem spread_row {n m : ℕ} {α : Type} (v : (⟨2, ![1, m]⟩ : Shape).Idx → α) (h : (⟨2, ![1, m]⟩ : Shape).BroadcastsInDim ⟨2, ![n, m]⟩ (![0, 1] : Fin 2 → Fin 2))
    (p : Fin n) (q : Fin m) : broadcastInDim ⟨2, ![n, m]⟩ ![0, 1] h v (ix2 p q) = v (ix2 0 q) := by
  refine broadcastInDim_apply _ h v _ _ fun a => ?_
  match a with
  | ⟨0, _⟩ => rfl
  | ⟨1, _⟩ =>
    show q.val = if m = 1 then 0 else q.val
    by_cases hm : m = 1
    · rw [if_pos hm]; omega
    · rw [if_neg hm]

variable (V0 : Valuation τ sig (Elt Ideal))

/-! ## The arguments, and by their indices -/

abbrev A0 : FVec Ideal S16x2048x32 .f32 := V0 (Proc.devRef .tc main_arg0)
abbrev A1 : FVec Ideal S16x16 .f32 := V0 (Proc.devRef .tc main_arg1)
abbrev A2 : FVec Ideal S16x256 .f32 := V0 (Proc.devRef .tc main_arg2)
abbrev A4 : FVec Ideal S16384x256 .f32 := V0 (Proc.devRef .tc main_arg4)
abbrev A6 : FVec Ideal S48x64 .f32 := V0 (Proc.devRef .tc main_arg6)
abbrev A7 : FVec Ideal S64 .f32 := V0 (Proc.devRef .tc main_arg7)
abbrev A8 : FVec Ideal S256x64 .f32 := V0 (Proc.devRef .tc main_arg8)
abbrev A9 : FVec Ideal S64 .f32 := V0 (Proc.devRef .tc main_arg9)
abbrev A10 : FVec Ideal S256x128 .f32 := V0 (Proc.devRef .tc main_arg10)
abbrev A11 : FVec Ideal S128 .f32 := V0 (Proc.devRef .tc main_arg11)
abbrev A12 : FVec Ideal S1x32 .f32 := V0 (Proc.devRef .tc main_arg12)
abbrev A13 : FVec Ideal S160x128 .f32 := V0 (Proc.devRef .tc main_arg13)
abbrev A14 : FVec Ideal S128 .f32 := V0 (Proc.devRef .tc main_arg14)

abbrev a0 (i : Fin 16) (j : Fin 2048) (k : Fin 32) : EReal := A0 V0 (ix3 i j k)
abbrev a1 (i : Fin 16) (j : Fin 16) : EReal := A1 V0 (ix2 i j)
abbrev a2 (i : Fin 16) (j : Fin 256) : EReal := A2 V0 (ix2 i j)
abbrev a4 (i : Fin 16384) (j : Fin 256) : EReal := A4 V0 (ix2 i j)
abbrev a6 (i : Fin 48) (j : Fin 64) : EReal := A6 V0 (ix2 i j)
abbrev a7 (i : Fin 64) : EReal := A7 V0 (ix1 i)
abbrev a8 (i : Fin 256) (j : Fin 64) : EReal := A8 V0 (ix2 i j)
abbrev a9 (i : Fin 64) : EReal := A9 V0 (ix1 i)
abbrev a10 (i : Fin 256) (j : Fin 128) : EReal := A10 V0 (ix2 i j)
abbrev a11 (i : Fin 128) : EReal := A11 V0 (ix1 i)
abbrev a12 (i : Fin 32) : EReal := A12 V0 (ix2 0 i)
abbrev a13 (i : Fin 160) (j : Fin 128) : EReal := A13 V0 (ix2 i j)
abbrev a14 (i : Fin 128) : EReal := A14 V0 (ix1 i)

/-! ## The pieces -/

/-- The event embedding. -/
def evEmb : FVec Ideal S16x128 .f32 :=
  maximumf (addf (Host.dotGeneral dot_S16x256_S256x128_S16x128_1_0_0_1_n_n none (A2 V0) (A10 V0))
      (broadcastInDim S16x128 ![0, 1] bcast_S1x128_S16x128_0_1 (broadcastInDim S1x128 ![1] bcast_S128_S1x128_1 (A11 V0))))
    (broadcastInDim S16x128 ![] bcast_S_S16x128 (constant S_ .f32 0x00000000#32))
/-- The event rows before the last product. -/
def evIn : FVec Ideal S16x160 .f32 :=
  concatenate S16x160 1 [⟨S16x128, evEmb V0⟩, ⟨S16x32, broadcastInDim S16x32 ![0, 1] bcast_S1x32_S16x32_0_1 (A12 V0)⟩]
    concatenates_S16x128_S16x32_S16x160_d1
/-- Each prong's own features, and its event's extra ones. -/
def featIn : FVec Ideal S16384x32 .f32 :=
  Host.gather gather_S32768x32_S16384x1_S16384x32_1_0_n_n_0_1_132 (shapeCast _ (A0 V0) shapeCasts_S16x2048x32_S32768x32)
    (broadcastInDim S16384x1 ![0] bcast_S16384_S16384x1_0 (select (cmpi .slt (res_main_v28 V0) (broadcastInDim S16384 ![] bcast_S_S16384 (constantI S_ 32 0#32)))
      (addi (res_main_v28 V0) (broadcastInDim S16384 ![] bcast_S_S16384 (constantI S_ 32 32768#32))) (res_main_v28 V0)))
def extraIn : FVec Ideal S16384x16 .f32 :=
  Host.gather gather_S16x16_S16384x1_S16384x16_1_0_n_n_0_1_116 (A1 V0)
    (broadcastInDim S16384x1 ![0] bcast_S16384_S16384x1_0 (select (cmpi .slt (res_main_v29 V0) (broadcastInDim S16384 ![] bcast_S_S16384 (constantI S_ 32 0#32)))
      (addi (res_main_v29 V0) (broadcastInDim S16384 ![] bcast_S_S16384 (constantI S_ 32 16#32))) (res_main_v29 V0)))
/-- The prongs' feature embedding. -/
def prFeat : FVec Ideal S16384x64 .f32 :=
  maximumf (addf (Host.dotGeneral dot_S16384x48_S48x64_S16384x64_1_0_0_1_n_n none
        (concatenate S16384x48 1 [⟨S16384x32, featIn V0⟩, ⟨S16384x16, extraIn V0⟩] concatenates_S16384x32_S16384x16_S16384x48_d1) (A6 V0))
      (broadcastInDim S16384x64 ![0, 1] bcast_S1x64_S16384x64_0_1 (broadcastInDim S1x64 ![1] bcast_S64_S1x64_1 (A7 V0))))
    (broadcastInDim S16384x64 ![] bcast_S_S16384x64 (constant S_ .f32 0x00000000#32))
/-- The prongs' pixel embedding. -/
def prPix : FVec Ideal S16384x64 .f32 :=
  maximumf (addf (Host.dotGeneral dot_S16384x256_S256x64_S16384x64_1_0_0_1_n_n none (A4 V0) (A8 V0))
      (broadcastInDim S16384x64 ![0, 1] bcast_S1x64_S16384x64_0_1 (broadcastInDim S1x64 ![1] bcast_S64_S1x64_1 (A9 V0))))
    (broadcastInDim S16384x64 ![] bcast_S_S16384x64 (constant S_ .f32 0x00000000#32))
/-- The prong rows before the last product. -/
def prIn : FVec Ideal S16384x160 .f32 :=
  concatenate S16384x160 1 [⟨S16384x64, prFeat V0⟩, ⟨S16384x64, prPix V0⟩,
      ⟨S16384x32, broadcastInDim S16384x32 ![0, 1] bcast_S1x32_S16384x32_0_1 (A12 V0)⟩]
    concatenates_S16384x64_S16384x64_S16384x32_S16384x160_d1
/-- All rows before the last product, and after it. -/
def allIn : FVec Ideal S16400x160 .f32 := concatenate S16400x160 0 [⟨S16x160, evIn V0⟩, ⟨S16384x160, prIn V0⟩] concatenates_S16x160_S16384x160_S16400x160_d0
def allPre : FVec Ideal S16400x128 .f32 :=
  addf (Host.dotGeneral dot_S16400x160_S160x128_S16400x128_1_0_0_1_n_n none (allIn V0) (A13 V0))
    (broadcastInDim S16400x128 ![0, 1] bcast_S1x128_S16400x128_0_1 (broadcastInDim S1x128 ![1] bcast_S128_S1x128_1 (A14 V0)))

theorem v62_eq : res_main_v62 V0 = allPre V0 := rfl

/-! ## Each piece at an index -/

theorem evEmb_at (b : Fin 16) (l : Fin 128) : evEmb V0 (ix2 b l) = emb (a2 V0 b) (a10 V0) (a11 V0) l := by
  unfold evEmb
  exact congrArg₂ (fun a b : EReal => max a b) (congrArg₂ (fun a b : EReal => a + b) (dot_at _ _ b l) (bcCols _ _ _ b l)) (bc0 _ _ _)

theorem prPix_at (x : Fin 16384) (l : Fin 64) : prPix V0 (ix2 x l) = emb (a4 V0 x) (a8 V0) (a9 V0) l := by
  unfold prPix
  exact congrArg₂ (fun a b : EReal => max a b) (congrArg₂ (fun a b : EReal => a + b) (dot_at _ _ x l) (bcCols _ _ _ x l)) (bc0 _ _ _)

theorem allPre_at (R : Fin 16400) (j : Fin 128) : allPre V0 (ix2 R j) = (∑ k : Fin 160, allIn V0 (ix2 R k) * a13 V0 k j) + a14 V0 j := by
  unfold allPre
  exact congrArg₂ (fun a b : EReal => a + b) (dot_at _ _ R j) (bcCols _ _ _ R j)

/-- An event's row. -/
theorem allPre_event (b : Fin 16) (R : Fin 16400) (hR : R.val = b.val) (j : Fin 128) :
    allPre V0 (ix2 R j) = eventV (emb (a2 V0 b) (a10 V0) (a11 V0)) (a12 V0) (a13 V0) (a14 V0) j := by
  have hin : ∀ k : Fin 160, allIn V0 (ix2 R k) = evIn V0 (ix2 b k) := fun k => by
    unfold allIn
    exact cat_rows _ _ 0 (by exact Nat.zero_lt_succ _) _ rfl 0 rfl b k R (by omega)
  rw [allPre_at, sum_two, add_assoc]
  refine congrArg₂ (fun a b : EReal => a + b) (Finset.sum_congr rfl fun l _ => congrArg (fun a : EReal => a * _) ((hin _).trans ?_))
    (congrArg (fun a : EReal => a + _) (Finset.sum_congr rfl fun k _ => congrArg (fun a : EReal => a * _) ((hin _).trans ?_)))
  · unfold evIn
    refine (cat_cols _ _ 0 (by exact Nat.zero_lt_succ _) _ rfl 0 rfl b l _ (by exact Nat.zero_add _)).trans ?_
    exact evEmb_at V0 b l
  · unfold evIn
    refine (cat_cols _ _ 1 (by exact Nat.lt_succ_self _) _ rfl 128 rfl b k _ rfl).trans ?_
    exact spread_row _ _ b k

section Prongs

variable (hm : ∀ (i : Fin 16) (j : Fin 2048), (V0 (Proc.devRef .tc main_arg5) : IVec S16x2048 1) (ix2 i j) = BitVec.ofBool (decide (j.val < 1024)))
include hm

/-- The rows' positions, wrapped as a Python index, as a column. -/
theorem col28_at (x : Fin 16384) : (broadcastInDim S16384x1 ![0] bcast_S16384_S16384x1_0
    (select (cmpi .slt (res_main_v28 V0) (broadcastInDim S16384 ![] bcast_S_S16384 (constantI S_ 32 0#32)))
      (addi (res_main_v28 V0) (broadcastInDim S16384 ![] bcast_S_S16384 (constantI S_ 32 32768#32))) (res_main_v28 V0) : IVec S16384 32)) (ix2 x (0 : Fin 1))
    = BitVec.ofNat 32 (pos x.val) := by
  have hp := pos_lt x.isLt
  refine (bcCol _ _ x).trans ?_
  rw [select_at, cmpi_at, bc0, constantI_at, v28_at V0 hm, wrap_of_lt]
  rw [BitVec.toNat_ofNat]
  exact Nat.lt_of_le_of_lt (Nat.mod_le _ _) (by omega)
theorem col29_at (x : Fin 16384) : (broadcastInDim S16384x1 ![0] bcast_S16384_S16384x1_0
    (select (cmpi .slt (res_main_v29 V0) (broadcastInDim S16384 ![] bcast_S_S16384 (constantI S_ 32 0#32)))
      (addi (res_main_v29 V0) (broadcastInDim S16384 ![] bcast_S_S16384 (constantI S_ 32 16#32))) (res_main_v29 V0) : IVec S16384 32)) (ix2 x (0 : Fin 1))
    = BitVec.ofNat 32 (x.val / 1024) := by
  have hx := x.isLt
  refine (bcCol _ _ x).trans ?_
  rw [select_at, cmpi_at, bc0, constantI_at, v29_at V0 hm, wrap_of_lt]
  rw [BitVec.toNat_ofNat]
  exact Nat.lt_of_le_of_lt (Nat.mod_le _ _) (by omega)

variable (b : Fin 16) (r : Fin 1024) (x : Fin 16384) (hx : x.val = b.val * 1024 + r.val)
include hx

theorem featIn_at (k : Fin 32) : featIn V0 (ix2 x k) = a0 V0 b ⟨r.val, by omega⟩ k := by
  unfold featIn
  refine (gather_row _ rfl rfl rfl rfl rfl _ _ x k ⟨pos x.val, pos_lt x.isLt⟩ (col28_at V0 hm x) (by decide)).trans ?_
  exact cast_fold _ _ b ⟨r.val, by omega⟩ k _ (by show pos x.val = b.val * 2048 + r.val; unfold pos; omega)
theorem extraIn_at (k : Fin 16) : extraIn V0 (ix2 x k) = a1 V0 b k := by
  unfold extraIn
  exact gather_row _ rfl rfl rfl rfl rfl _ _ x k b ((col29_at V0 hm x).trans (congrArg _ (by omega))) (by decide)

theorem prFeat_at (l : Fin 64) : prFeat V0 (ix2 x l) = embF (a0 V0 b ⟨r.val, by omega⟩) (a1 V0 b) (a6 V0) (a7 V0) l := by
  unfold prFeat
  refine congrArg₂ (fun a b : EReal => max a b) ((congrArg₂ (fun a b : EReal => a + b) ((dot_at _ _ x l).trans (sum_feat _)) (bcCols _ _ _ x l)).trans ?_) (bc0 _ _ _)
  refine (add_assoc _ _ _).trans ?_
  refine congrArg₂ (fun a b : EReal => a + b) (Finset.sum_congr rfl fun k _ => congrArg (fun a : EReal => a * _) ?_)
    (congrArg (fun a : EReal => a + _) (Finset.sum_congr rfl fun k _ => congrArg (fun a : EReal => a * _) ?_))
  · refine (cat_cols _ _ 0 (by exact Nat.zero_lt_succ _) _ rfl 0 rfl x k _ (by exact Nat.zero_add _)).trans ?_
    exact featIn_at V0 hm b r x hx k
  · refine (cat_cols _ _ 1 (by exact Nat.lt_succ_self _) _ rfl 32 rfl x k _ rfl).trans ?_
    exact extraIn_at V0 hm b r x hx k

/-- A prong's row. -/
theorem allPre_prong (R : Fin 16400) (hR : R.val = 16 + x.val) (j : Fin 128) :
    allPre V0 (ix2 R j) = prongV (embF (a0 V0 b ⟨r.val, by omega⟩) (a1 V0 b) (a6 V0) (a7 V0)) (emb (a4 V0 x) (a8 V0) (a9 V0)) (a12 V0) (a13 V0) (a14 V0) j := by
  have hin : ∀ k : Fin 160, allIn V0 (ix2 R k) = prIn V0 (ix2 x k) := fun k => by
    unfold allIn
    exact cat_rows _ _ 1 (by exact Nat.lt_succ_self _) _ rfl 16 rfl x k R hR.symm
  rw [allPre_at, sum_three, add_assoc]
  refine congrArg₂ (fun a b : EReal => a + b) (congrArg₂ (fun a b : EReal => a + b)
    (Finset.sum_congr rfl fun l _ => congrArg (fun a : EReal => a * _) ((hin _).trans ?_))
    (Finset.sum_congr rfl fun l _ => congrArg (fun a : EReal => a * _) ((hin _).trans ?_)))
    (congrArg (fun a : EReal => a + _) (Finset.sum_congr rfl fun k _ => congrArg (fun a : EReal => a * _) ((hin _).trans ?_)))
  · unfold prIn
    refine (cat_cols _ _ 0 (by exact Nat.zero_lt_succ _) _ rfl 0 rfl x l _ (by exact Nat.zero_add _)).trans ?_
    exact prFeat_at V0 hm b r x hx l
  · unfold prIn
    refine (cat_cols _ _ 1 (by exact (by decide : 1 < 3)) _ rfl 64 rfl x l _ rfl).trans ?_
    exact prPix_at V0 x l
  · unfold prIn
    refine (cat_cols _ _ 2 (by exact (by decide : 2 < 3)) _ rfl 128 rfl x k _ rfl).trans ?_
    exact spread_row _ _ x k

end Prongs

/-! ## The result -/

/-- All rows, after the gelu. -/
def allPost : FVec Ideal S16400x128 .f32 := fun i => gelu (allPre V0 i)

theorem v75_eq : res_main_v75 V0 = allPost V0 := by
  funext i
  unfold res_main_v75 allPost gelu
  rw [v62_eq, mul_comm (allPre V0 i) (allPre V0 i * allPre V0 i)]
  rfl

/-- The column of positions the rows are put back at. -/
def col28 : IVec S16384x1 32 := broadcastInDim S16384x1 ![0] bcast_S16384_S16384x1_0
  (select (cmpi .slt (res_main_v28 V0) (broadcastInDim S16384 ![] bcast_S_S16384 (constantI S_ 32 0#32)))
    (addi (res_main_v28 V0) (broadcastInDim S16384 ![] bcast_S_S16384 (constantI S_ 32 32768#32))) (res_main_v28 V0))

/-- The event rows, and the prong rows put back at their positions. -/
def evOut : FVec Ideal S16x1x128 .f32 :=
  broadcastInDim S16x1x128 ![0, 2] bcast_S16x128_S16x1x128_0_2 (extractStridedSlice S16x128 ![0, 0] (allPost V0) slices_S16400x128_S16x128_0_0)
def prFlat : FVec Ideal S32768x128 .f32 :=
  Host.scatter rowDims (fun _ b => b) (broadcastInDim S32768x128 ![] bcast_S_S32768x128 (constant S_ .f32 0x00000000#32 : FVec Ideal S_ .f32))
    (col28 V0) (extractStridedSlice S16384x128 ![16, 0] (allPost V0) slices_S16400x128_S16384x128_16_0)
def prOut : FVec Ideal S16x2048x128 .f32 := shapeCast S16x2048x128 (prFlat V0) shapeCasts_S32768x128_S16x2048x128
/-- The first result. -/
def refOut : FVec Ideal S16x2049x128 .f32 :=
  concatenate S16x2049x128 1 [⟨S16x1x128, evOut V0⟩, ⟨S16x2048x128, prOut V0⟩] concatenates_S16x1x128_S16x2048x128_S16x2049x128_d1

theorem refOut_event (b : Fin 16) (j : Fin 128) :
    refOut V0 (ix3 b 0 j) = gelu (eventV (emb (a2 V0 b) (a10 V0) (a11 V0)) (a12 V0) (a13 V0) (a14 V0) j) := by
  unfold refOut
  refine (cat_mid _ _ 0 (by exact Nat.zero_lt_succ _) _ rfl 0 rfl b 0 j 0 rfl).trans ?_
  unfold evOut
  refine (broadcastInDim_apply _ _ _ _ (ix2 b j) fun a => ?_).trans ?_
  · match a with
    | ⟨0, _⟩ => rfl
    | ⟨1, _⟩ => rfl
  refine (slice_rows (R := 16400) 0 _ _ b j ⟨b.val, by omega⟩ (Nat.zero_add _).symm).trans ?_
  exact congrArg gelu (allPre_event V0 b _ rfl j)

section Prongs2

variable (hm : ∀ (i : Fin 16) (j : Fin 2048), (V0 (Proc.devRef .tc main_arg5) : IVec S16x2048 1) (ix2 i j) = BitVec.ofBool (decide (j.val < 1024)))
include hm

theorem refOut_prong (b : Fin 16) (r : Fin 1024) (x : Fin 16384) (hx : x.val = b.val * 1024 + r.val) (i : Fin 2049) (hi : i.val = 1 + r.val) (j : Fin 128) :
    refOut V0 (ix3 b i j) = gelu (prongV (embF (a0 V0 b ⟨r.val, by omega⟩) (a1 V0 b) (a6 V0) (a7 V0)) (emb (a4 V0 x) (a8 V0) (a9 V0)) (a12 V0) (a13 V0) (a14 V0) j) := by
  unfold refOut
  refine (cat_mid (b := 2048) _ _ 1 (by exact Nat.lt_succ_self _) (prOut V0) rfl 1 rfl b ⟨r.val, by omega⟩ j i hi.symm).trans ?_
  unfold prOut
  refine (cast_unfold _ _ b ⟨r.val, by omega⟩ j ⟨b.val * 2048 + r.val, by omega⟩ rfl).trans ?_
  unfold prFlat
  refine (scatter_rows_hit _ _ _ pos (col28_at V0 hm) (fun i => Nat.lt_trans (pos_lt i.isLt) (by decide)) (fun i k h => Fin.ext (pos_inj h)) x _
    (by show pos x.val = b.val * 2048 + r.val; unfold pos; omega) j).trans ?_
  refine (slice_rows (R := 16400) 16 _ _ x j ⟨16 + x.val, by omega⟩ rfl).trans ?_
  exact congrArg gelu (allPre_prong V0 hm b r x hx _ rfl j)

theorem refOut_rest (b : Fin 16) (i : Fin 2049) (hi : 1025 ≤ i.val) (j : Fin 128) : refOut V0 (ix3 b i j) = lit 0x00000000#32 := by
  unfold refOut
  refine (cat_mid (b := 2048) _ _ 1 (by exact Nat.lt_succ_self _) (prOut V0) rfl 1 rfl b ⟨i.val - 1, by omega⟩ j i (by show 1 + (i.val - 1) = i.val; omega)).trans ?_
  unfold prOut
  refine (cast_unfold _ _ b ⟨i.val - 1, by omega⟩ j ⟨b.val * 2048 + (i.val - 1), by omega⟩ rfl).trans ?_
  unfold prFlat
  refine (scatter_rows_miss _ _ _ pos (col28_at V0 hm) (fun i => Nat.lt_trans (pos_lt i.isLt) (by decide)) _ (fun u => ?_) j).trans ?_
  · have := u.isLt
    have := i.isLt
    show pos u.val ≠ b.val * 2048 + (i.val - 1)
    unfold pos; omega
  · exact bc0 _ _ _

end Prongs2

end Cert.ReferenceIdeal.Hand

end
-- ==== Proof.Equal.lean ====
/- The two first results agree over the reals: the same combined row at every index, and zero past the prongs. -/
module

public import proofs.«01_k».proof.Proof.Small
public import proofs.«01_k».proof.Proof.RefRows

@[expose] public section

set_option maxRecDepth 16384

noncomputable section

namespace Cert.KernelIdeal.Hand

open Cert.KernelIdeal Cert.KernelIdeal.Gen Cert.Rows
open Idealize.ShloMosaic Idealize.ShloMosaic.TcCoe Idealize.ShloMosaic.ValueIdx

variable (m : (ℓ : Loc nD τ sig) → Buf (Elt Ideal) ℓ) (c : Dev nD)

/-! ## The kernel's arguments by their indices -/

abbrev k0 (i : Fin 16) (j : Fin 2048) (k : Fin 32) : EReal := m ((c : Thread nD τ).loc main_arg0) (ix3 i j k)
abbrev k1 (i : Fin 16) (j : Fin 16) : EReal := m ((c : Thread nD τ).loc main_arg1) (ix2 i j)
abbrev k2 (i : Fin 16) (j : Fin 256) : EReal := m ((c : Thread nD τ).loc main_arg2) (ix2 i j)
abbrev k4 (i : Fin 16384) (j : Fin 256) : EReal := m ((c : Thread nD τ).loc main_arg4) (ix2 i j)
abbrev k6 (i : Fin 48) (j : Fin 64) : EReal := m ((c : Thread nD τ).loc main_arg6) (ix2 i j)
abbrev k7 (i : Fin 64) : EReal := m ((c : Thread nD τ).loc main_arg7) (ix1 i)
abbrev k8 (i : Fin 256) (j : Fin 64) : EReal := m ((c : Thread nD τ).loc main_arg8) (ix2 i j)
abbrev k9 (i : Fin 64) : EReal := m ((c : Thread nD τ).loc main_arg9) (ix1 i)
abbrev k10 (i : Fin 256) (j : Fin 128) : EReal := m ((c : Thread nD τ).loc main_arg10) (ix2 i j)
abbrev k11 (i : Fin 128) : EReal := m ((c : Thread nD τ).loc main_arg11) (ix1 i)
abbrev k12 (i : Fin 32) : EReal := m ((c : Thread nD τ).loc main_arg12) (ix2 0 i)
abbrev k13 (i : Fin 160) (j : Fin 128) : EReal := m ((c : Thread nD τ).loc main_arg13) (ix2 i j)
abbrev k14 (i : Fin 128) : EReal := m ((c : Thread nD τ).loc main_arg14) (ix1 i)

/-! ## The kernel's result -/

theorem pos_eq : posF (smallOf m c) = k12 m c := funext fun k => small_pos m c 0 k
theorem wComb_eq : wCombF (smallOf m c) = k13 m c := funext fun k => funext fun j => small_wComb m c k j
theorem bComb_eq : bCombF (smallOf m c) = k14 m c := funext fun j => small_bComb m c j

theorem result_event (b : Fin 16) (j : Fin 128) : (result m c : FVec Ideal S16x2049x128 .f32) (ix3 b 0 j)
    = gelu (eventV (emb (k2 m c b) (k10 m c) (k11 m c)) (k12 m c) (k13 m c) (k14 m c) j) := by
  refine Eq.trans (b := outRow c (smallOf m c) (V m c main_arg0) (V m c main_arg4) b.val 0 j) rfl ?_
  unfold outRow
  rw [dif_pos (show (0 : Fin 2049).val < 1025 by decide)]
  refine (slab_event (smallOf m c) _ _ b j).trans ?_
  rw [pos_eq, wComb_eq, bComb_eq]
  refine congrArg (fun e => gelu (eventV e _ _ _ j)) ?_
  exact congr (congr (congrArg emb (funext fun k => small_eventPix m c b k)) (funext fun k => funext fun l => small_wEvent m c k l))
    (funext fun l => small_bEvent m c l)

theorem result_prong (b : Fin 16) (r : Fin 1024) (x : Fin 16384) (hx : x.val = b.val * 1024 + r.val) (i : Fin 2049) (hi : i.val = 1 + r.val) (j : Fin 128) :
    (result m c : FVec Ideal S16x2049x128 .f32) (ix3 b i j)
      = gelu (prongV (embF (k0 m c b ⟨r.val, by omega⟩) (k1 m c b) (k6 m c) (k7 m c)) (emb (k4 m c x) (k8 m c) (k9 m c)) (k12 m c) (k13 m c) (k14 m c) j) := by
  refine Eq.trans (b := outRow c (smallOf m c) (V m c main_arg0) (V m c main_arg4) b.val i j) rfl ?_
  unfold outRow
  rw [dif_pos (show i.val < 1025 by omega)]
  refine (slab_prong (smallOf m c) _ _ b r ⟨i.val, by omega⟩ hi j).trans ?_
  rw [pos_eq, wComb_eq, bComb_eq]
  refine congrArg₂ (fun f p => gelu (prongV f p _ _ _ j)) ?_ ?_
  · refine congr (congr (congr (congrArg embF (funext fun k => ?_)) (funext fun k => small_extra m c b k)) (funext fun k => funext fun l => small_wFeat m c k l))
      (funext fun l => small_bFeat m c l)
    refine Eq.trans (b := V m c main_arg0 (ix3 (ev b.val) ⟨r.val, by omega⟩ k)) rfl ?_
    rw [show ev b.val = b from Fin.ext (by show b.val % 16 = b.val; omega)]
    exact congrFun (V_main_arg0 m c) _
  · refine congr (congr (congrArg emb (funext fun k => ?_)) (funext fun k => funext fun l => small_wPix m c k l)) (funext fun l => small_bPix m c l)
    refine Eq.trans (b := V m c main_arg4 (ix2 ⟨1024 * (b.val % 16) + r.val, by omega⟩ k)) rfl ?_
    rw [show (⟨1024 * (b.val % 16) + r.val, by omega⟩ : Fin 16384) = x from Fin.ext (by show 1024 * (b.val % 16) + r.val = x.val; omega)]
    exact congrFun (V_main_arg4 m c) _

theorem result_rest (b : Fin 16) (i : Fin 2049) (hi : 1025 ≤ i.val) (j : Fin 128) :
    (result m c : FVec Ideal S16x2049x128 .f32) (ix3 b i j) = lit 0x00000000#32 := by
  refine Eq.trans (b := outRow c (smallOf m c) (V m c main_arg0) (V m c main_arg4) b.val i j) rfl ?_
  unfold outRow
  rw [dif_neg (by omega)]
  rfl

/-! ## The two results -/

open Cert.ReferenceIdeal.Hand in
/-- Where the arguments agree and the mask holds the first half of every line, so do the first results. -/
theorem result_eq (V0 : Valuation Cert.ReferenceIdeal.τ Cert.ReferenceIdeal.sig (Elt Ideal))
    (hm : ∀ (i : Fin 16) (j : Fin 2048), (V0 (Proc.devRef .tc Cert.ReferenceIdeal.main_arg5) : IVec Cert.ReferenceIdeal.S16x2048 1) (ix2 i j) = BitVec.ofBool (decide (j.val < 1024)))
    (h0 : A0 V0 = m ((c : Thread nD τ).loc main_arg0)) (h1 : A1 V0 = m ((c : Thread nD τ).loc main_arg1))
    (h2 : A2 V0 = m ((c : Thread nD τ).loc main_arg2)) (h4 : A4 V0 = m ((c : Thread nD τ).loc main_arg4))
    (h6 : A6 V0 = m ((c : Thread nD τ).loc main_arg6)) (h7 : A7 V0 = m ((c : Thread nD τ).loc main_arg7))
    (h8 : A8 V0 = m ((c : Thread nD τ).loc main_arg8)) (h9 : A9 V0 = m ((c : Thread nD τ).loc main_arg9))
    (h10 : A10 V0 = m ((c : Thread nD τ).loc main_arg10)) (h11 : A11 V0 = m ((c : Thread nD τ).loc main_arg11))
    (h12 : A12 V0 = m ((c : Thread nD τ).loc main_arg12)) (h13 : A13 V0 = m ((c : Thread nD τ).loc main_arg13))
    (h14 : A14 V0 = m ((c : Thread nD τ).loc main_arg14)) :
    refOut V0 = result m c := by
  have e0 : a0 V0 = k0 m c := funext fun i => funext fun j => funext fun k => congrFun h0 _
  have e1 : a1 V0 = k1 m c := funext fun i => funext fun j => congrFun h1 _
  have e2 : a2 V0 = k2 m c := funext fun i => funext fun j => congrFun h2 _
  have e4 : a4 V0 = k4 m c := funext fun i => funext fun j => congrFun h4 _
  have e6 : a6 V0 = k6 m c := funext fun i => funext fun j => congrFun h6 _
  have e7 : a7 V0 = k7 m c := funext fun i => congrFun h7 _
  have e8 : a8 V0 = k8 m c := funext fun i => funext fun j => congrFun h8 _
  have e9 : a9 V0 = k9 m c := funext fun i => congrFun h9 _
  have e10 : a10 V0 = k10 m c := funext fun i => funext fun j => congrFun h10 _
  have e11 : a11 V0 = k11 m c := funext fun i => congrFun h11 _
  have e12 : a12 V0 = k12 m c := funext fun i => congrFun h12 _
  have e13 : a13 V0 = k13 m c := funext fun i => funext fun j => congrFun h13 _
  have e14 : a14 V0 = k14 m c := funext fun i => congrFun h14 _
  have hall : ∀ (b : Fin 16) (i : Fin 2049) (j : Fin 128), refOut V0 (ix3 b i j) = (result m c : FVec Ideal S16x2049x128 .f32) (ix3 b i j) := fun b i j => by
    rcases Nat.eq_zero_or_pos i.val with h | h
    · obtain rfl : i = 0 := Fin.ext h
      refine (refOut_event V0 b j).trans (Eq.trans ?_ (result_event m c b j).symm)
      rw [e2, e10, e11, e12, e13, e14]
    · rcases Nat.lt_or_ge i.val 1025 with h' | h'
      · refine (refOut_prong V0 hm b ⟨i.val - 1, by omega⟩ ⟨b.val * 1024 + (i.val - 1), by omega⟩ rfl i (by show i.val = 1 + (i.val - 1); omega) j).trans
          (Eq.trans ?_ (result_prong m c b ⟨i.val - 1, by omega⟩ ⟨b.val * 1024 + (i.val - 1), by omega⟩ rfl i (by show i.val = 1 + (i.val - 1); omega) j).symm)
        rw [e0, e1, e4, e6, e7, e8, e9, e12, e13, e14]
      · exact (refOut_rest V0 hm b i h' j).trans (result_rest m c b i h' j).symm
  funext i
  exact (congrArg (refOut V0) (eq_ix3 i)).trans ((hall (i 0) (i 1) (i 2)).trans (congrArg (result m c : FVec Ideal S16x2049x128 .f32) (eq_ix3 i)).symm)

end Cert.KernelIdeal.Hand

end
-- ==== Proof.Mask.lean ====
/- What the precondition says of the prong mask: every line holds ones in its first half and zeros in its second. -/
module

public import proofs.«01_k».proof.Pre_prong_mask_is_first_half
public import Idealize.ShloMosaic.Lib.ReduceAll
public import Idealize.ShloMosaic.Lib.WordCmp
public import Idealize.ShloMosaic.Lib.Routing.Ops
public import Idealize.ShloMosaic.Lib.Routing.Words

@[expose] public section

set_option maxRecDepth 16384

noncomputable section

namespace Cert.Pre_prong_mask_is_first_half.Hand

open Cert.Pre_prong_mask_is_first_half
open Idealize.ShloMosaic Idealize.ShloMosaic.ValueIdx Idealize.ShloMosaic.Routing Idealize.ShloMosaic.WordCmp

/-- The shape relations the predicate states. -/
theorem facts : Facts where
  bcast_S_S2048 := by decide
  bcast_S2048_S1x2048_1 := by decide
  bcast_S1x2048_S16x2048_0_1 := by decide
  reducesTo_S16x2048_S_d0_1 := by decide
  h_S_ := by decide

variable [Facts] {F : FTy → Type} [FloatOps F]

/-- The mask where the predicate is one. -/
theorem mask_at (x0 : FVec F S16x2048x32 .f32) (x1 : FVec F S16x16 .f32) (x2 : FVec F S16x256 .f32) (x3 : IVec S16x1 1) (x4 : FVec F S16384x256 .f32)
    (x5 : IVec S16x2048 1) (x6 : FVec F S48x64 .f32) (x7 : FVec F S64 .f32) (x8 : FVec F S256x64 .f32) (x9 : FVec F S64 .f32) (x10 : FVec F S256x128 .f32)
    (x11 : FVec F S128 .f32) (x12 : FVec F S1x32 .f32) (x13 : FVec F S160x128 .f32) (x14 : FVec F S128 .f32)
    (h : fn x0 x1 x2 x3 x4 x5 x6 x7 x8 x9 x10 x11 x12 x13 x14 ix0 = 1#1) (i : Fin 16) (j : Fin 2048) :
    x5 (ix2 i j) = BitVec.ofBool (decide (j.val < 1024)) := by
  have hs : Subsingleton S_.Idx := ⟨fun a b => funext fun k => k.elim0⟩
  have e := Host.reduce_andi_all _ _ _ _ ix0 h (ix2 i j)
  have e' := (cmpi_eq_eq _ _).symm.trans e
  have e'' := (ofBool_decide_eq_one_iff _).mp e'
  refine e''.trans ((bcCols _ _ _ i j).trans ?_)
  have hj := j.isLt
  exact cmpi_slt_ofNat (w := 32) (a := j.val) (b := 1024) (by omega) (by decide)

end Cert.Pre_prong_mask_is_first_half.Hand

end
-- ==== Proof.Same.lean ====
/- The kernel as printed for words is the kernel as printed for reals, part by part, so its run is the one already shown. -/
module

public import proofs.«01_k».proof.Proof.Gen.Kernel
public import proofs.«01_k».proof.Proof.Run

@[expose] public section

set_option maxRecDepth 100000

noncomputable section

namespace Cert.Kernel.Hand

open Idealize.ShloMosaic Idealize.ShloMosaic.TcCoe Idealize.SL.Sem

variable {F : FTy → Type} [FloatOps F]

theorem body_same : Cert.Kernel.cc0__body (F := F) = Cert.KernelIdeal.cc0__body (F := F) := rfl

theorem defs₀_same : Cert.Kernel.defs₀ (F := F) = Cert.KernelIdeal.defs₀ (F := F) := by
  unfold Cert.Kernel.defs₀ Cert.KernelIdeal.defs₀
  rw [body_same]
  refine congrArg Defs.onTc (funext fun l => funext fun a => ?_)
  match l, a with
  | 0, (t, s) => rfl
  | ⟨_ + 1, h⟩, _ => exact absurd h (Nat.not_lt.2 (Nat.le_add_left _ _))

theorem defs_same : Cert.Kernel.defs (F := F) = Cert.KernelIdeal.defs (F := F) := by
  unfold Cert.Kernel.defs Cert.KernelIdeal.defs
  rw [defs₀_same]
  rfl

theorem main_same : Cert.Kernel.main (F := F) = Cert.KernelIdeal.main (F := F) := rfl

end Cert.Kernel.Hand

end
-- ==== Proof.lean ====
module

public import proofs.«01_k».proof.Defs
public import proofs.«01_k».proof.Proof.Equal
public import proofs.«01_k».proof.Proof.Mask
public import proofs.«01_k».proof.Proof.Same
public import Idealize.ShloMosaic.Lib.Quiescent

@[expose] public section

set_option maxRecDepth 100000

noncomputable section

namespace Cert.Proof

open Idealize.ShloMosaic Idealize.ShloMosaic.TcCoe Idealize.ShloMosaic.ValueIdx Idealize.SL.Sem

/-- The kernel's frame, from its ideal print's: the two print one program. -/
theorem kernel_quiescent : Cert.quiescent_Kernel (hKernel := Cert.Kernel.Gen.facts) := fun m g _ => by
  rw [Cert.Kernel.Hand.defs_same, Cert.Kernel.Hand.main_same]
  exact Cert.KernelIdeal.Hand.quiescent (F := Bits) m g

theorem ideal_quiescent : Cert.quiescent_KernelIdeal (hKernelIdeal := Cert.KernelIdeal.Gen.facts) :=
  fun m g _ => Cert.KernelIdeal.Hand.quiescent (F := Ideal) m g

/-- The reference's frame: it has no semaphore. -/
theorem reference_quiescent : Cert.quiescent_ReferenceIdeal (hReferenceIdeal := Cert.ReferenceIdeal.Gen.facts) := fun m g _ =>
  (θ_run _ _ _).mono (fun r h => ⟨fun c => (h c).2.2, sem_eq_zero_of_no_sems (by decide) r.2⟩) (Cert.ReferenceIdeal.Value.run (F := Ideal) m g)

/-- The kernel's results are the reference's. -/
theorem values : Cert.algebraic_KernelIdeal_ReferenceIdeal_pre_prong_mask_is_first_half (hKernelIdeal := Cert.KernelIdeal.Gen.facts)
    (hReferenceIdeal := Cert.ReferenceIdeal.Gen.facts) (hPre_prong_mask_is_first_half := Cert.Pre_prong_mask_is_first_half.Hand.facts) := by
  intro m g m' g' hpre harg
  refine ⟨Cert.KernelIdeal.Hand.result m, Cert.KernelIdeal.Hand.masks m,
    (θ_run _ _ _).mono (fun r h => h.1) (Cert.KernelIdeal.Hand.run (F := Ideal) m g),
    (θ_run _ _ _).mono (fun r h c => ?_) (Cert.ReferenceIdeal.Value.run (F := Ideal) m' g')⟩
  obtain ⟨h0, h1, h2, h3, h4, h5, h6, h7, h8, h9, h10, h11, h12, h13, h14⟩ := harg c
  have hm : ∀ (i : Fin 16) (j : Fin 2048), (StableHlo.launchContents m' c (Proc.devRef .tc Cert.ReferenceIdeal.main_arg5) : IVec Cert.ReferenceIdeal.S16x2048 1) (ix2 i j)
      = BitVec.ofBool (decide (j.val < 1024)) := fun i j =>
    (congrFun h5 _).trans (@Cert.Pre_prong_mask_is_first_half.Hand.mask_at Cert.Pre_prong_mask_is_first_half.Hand.facts Ideal _ _ _ _ _ _ _ _ _ _ _ _ _ _ _ _ (congrFun (hpre c) ix0) i j)
  have hv := Cert.KernelIdeal.Hand.result_eq m c (StableHlo.launchContents m' c) hm h0 h1 h2 h4 h6 h7 h8 h9 h10 h11 h12 h13 h14
  refine ⟨(h c).1.trans (Eq.trans ?_ hv), (h c).2.1.trans ?_, (h c).2.2⟩
  · rw [Cert.ReferenceIdeal.Hand.v75_eq]
    rfl
  · exact congrArg₂ (fun a b => concatenate Cert.KernelIdeal.S16x2049 1 [⟨Cert.KernelIdeal.S16x1, a⟩, ⟨Cert.KernelIdeal.S16x2048, b⟩]
      Cert.KernelIdeal.Gen.facts.concatenates_S16x1_S16x2048_S16x2049_d1) h3 h5

theorem claim : Cert.Claim :=
  ⟨Cert.Kernel.Gen.facts, Cert.KernelIdeal.Gen.facts, Cert.ReferenceIdeal.Gen.facts, Cert.Pre_prong_mask_is_first_half.Hand.facts,
    kernel_quiescent, ideal_quiescent, fun m g _ => ideal_quiescent m g trivial, reference_quiescent, fun m g _ => reference_quiescent m g trivial,
    trivial, values⟩

end Cert.Proof

end
